-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_settles [hPre_settles : Cert.Pre_settles.Facts] (m : (ℓ : Loc Cert.KernelIdeal.nD Cert.KernelIdeal.τ Cert.KernelIdeal.sig) → Buf (Elt Ideal) ℓ) : Prop :=
  ∀ c : Dev Cert.KernelIdeal.nD,
    (Cert.Pre_settles.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_settles [hPre_settles : Cert.Pre_settles.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_settles.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_settles [hKernelIdeal : Cert.KernelIdeal.Facts] [hPre_settles : Cert.Pre_settles.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_settles m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_settles [hReferenceIdeal : Cert.ReferenceIdeal.Facts] [hPre_settles : Cert.Pre_settles.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_settles m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_settles [hKernelIdeal : Cert.KernelIdeal.Facts] [hReferenceIdeal : Cert.ReferenceIdeal.Facts] [hPre_settles : Cert.Pre_settles.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_settles m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_settles : Cert.Pre_settles.Facts),
    quiescent_Kernel (hKernel := hKernel)
    ∧ quiescent_KernelIdeal (hKernelIdeal := hKernelIdeal)
    ∧ quiescent_KernelIdeal_pre_settles (hKernelIdeal := hKernelIdeal) (hPre_settles := hPre_settles)
    ∧ quiescent_ReferenceIdeal (hReferenceIdeal := hReferenceIdeal)
    ∧ quiescent_ReferenceIdeal_pre_settles (hReferenceIdeal := hReferenceIdeal) (hPre_settles := hPre_settles)
    ∧ preserves_Kernel_KernelIdeal
    ∧ algebraic_KernelIdeal_ReferenceIdeal_pre_settles (hKernelIdeal := hKernelIdeal) (hReferenceIdeal := hReferenceIdeal) (hPre_settles := hPre_settles)
-- ==== Pre_settles.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S100000 : Shape := ⟨1, ![100000]⟩
abbrev S1x100000 : Shape := ⟨2, ![1, 100000]⟩

class Facts : Prop where
  reducesTo_S1024x100000_S1024_d1 : S1024x100000.ReducesTo [1] S1024
  h_S_ : 0 < S_.numel
  bcast_S1024_S1024x1_0 : S1024.BroadcastsInDim S1024x1 (![0] : Fin 1 → Fin S1024x1.rank)
  bcast_S1024x1_S1024x100000_0_1 : S1024x1.BroadcastsInDim S1024x100000 (![0, 1] : Fin 2 → Fin S1024x100000.rank)
  bcast_S_S100000 : S_.BroadcastsInDim S100000 (![] : Fin 0 → Fin S100000.rank)
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  bcast_S_S1024x100000 : S_.BroadcastsInDim S1024x100000 (![] : Fin 0 → Fin S1024x100000.rank)
  bcast_S_S_ : S_.BroadcastsInDim S_ (![] : Fin 0 → Fin S_.rank)
  reduceWindows_S1024x100000_S1024x100000_w1s1p0_0_w100000s1p99999_0 : S1024x100000.ReduceWindows (![1, 100000] : Fin 2 → Nat) ![1, 1] ![0, 99999] ![0, 0] S1024x100000
  bcast_S_S1024x1 : S_.BroadcastsInDim S1024x1 (![] : Fin 0 → Fin S1024x1.rank)
  bcast_S_S1024 : S_.BroadcastsInDim S1024 (![] : Fin 0 → Fin S1024.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S1024x100000 .f32) : FVec F S1024x100000 .f32 :=
  let v0 : FVec F S1024x100000 .f32 := (fun x => Host.sort S1024x100000 1 comparator_f32_d1 x) arg0
  v0

def fn_cumsum_0 {F : FTy → Type} [FloatOps F] (arg0 : FVec F S1024x100000 .f32) : FVec F S1024x100000 .f32 :=
  let cst : FVec F S_ .f32 := constant S_ .f32 0x00000000#32
  let v0 : FVec F S_ .f32 := broadcastInDim S_ ![] bcast_S_S_ cst
  let v1 : FVec F S1024x100000 .f32 := (fun x v => Host.reduceWindowAdd ![1, 100000] ![1, 1] ![0, 99999] ![0, 0] x v reduceWindows_S1024x100000_S1024x100000_w1s1p0_0_w100000s1p99999_0 h_S_) arg0 v0
  v1

def fn_cumsum {F : FTy → Type} [FloatOps F] (arg0 : FVec F S1024x100000 .f32) : FVec F S1024x100000 .f32 :=
  let v0 : FVec F S1024x100000 .f32 := fn_cumsum_0 (F := F) arg0
  v0

def fn_part2 {F : FTy → Type} [FloatOps F] (main_arg1 : IVec S1024 32) (main_v3 : FVec F S1024x100000 .f32) (main_v27 : FVec F S1024x1 .f32) (main_v32 : FVec F S1024x100000 .f32) (main_v37 : FVec F S1024x1 .f32) (main_cst_8 : FVec F S_ .f32) : IVec S1024 1 :=
  let main_v38 : FVec F S1024 .f32 := (fun x v => Host.reduceAdd x v reducesTo_S1024x100000_S1024_d1 h_S_) main_v32 main_cst_8
  let main_v39 : FVec F S1024x1 .f32 := broadcastInDim S1024x1 ![0] bcast_S1024_S1024x1_0 main_v38
  let main_v40 : FVec F S1024x1 .f32 := Host.divf main_v37 main_v39
  let main_v41 : FVec F S1024x100000 .f32 := broadcastInDim S1024x100000 ![0, 1] bcast_S1024x1_S1024x100000_0_1 main_v40
  let main_v42 : IVec S1024x100000 1 := cmpf .ogt main_v3 main_v41
  let main_v43 : FVec F S1024x100000 .f32 := broadcastInDim S1024x100000 ![0, 1] bcast_S1024x1_S1024x100000_0_1 main_v27
  let main_v44 : IVec S1024x100000 1 := cmpf .olt main_v3 main_v43
  let main_v45 : IVec S1024x100000 1 := andi main_v42 main_v44
  let main_v46 : FVec F S1024x100000 .f32 := uitofp .f32 main_v45
  let main_cst_9 : FVec F S_ .f32 := constant S_ .f32 0x00000000#32
  let main_v47 : FVec F S1024 .f32 := (fun x v => Host.reduceAdd x v reducesTo_S1024x100000_S1024_d1 h_S_) main_v46 main_cst_9
  let main_cst_10 : FVec F S_ .f32 := constant S_ .f32 0x40000000#32
  let main_v48 : FVec F S1024 .f32 := broadcastInDim S1024 ![] bcast_S_S1024 main_cst_10
  let main_v49 : IVec S1024 1 := cmpf .ole main_v47 main_v48
  let main_c : IVec S_ 32 := constantI S_ 32 0#32
  let main_v50 : IVec S1024 32 := broadcastInDim S1024 ![] bcast_S_S1024 main_c
  let main_v51 : IVec S1024 1 := cmpi .sge main_arg1 main_v50
  let main_v52 : IVec S1024 1 := andi main_v49 main_v51
  let main_c_11 : IVec S_ 32 := constantI S_ 32 100000#32
  let main_v53 : IVec S1024 32 := broadcastInDim S1024 ![] bcast_S_S1024 main_c_11
  let main_v54 : IVec S1024 1 := cmpi .slt main_arg1 main_v53
  let main_v55 : IVec S1024 1 := andi main_v52 main_v54
  main_v55

def fn_part1 {F : FTy → Type} [FloatOps F] (main_arg1 : IVec S1024 32) (main_v3 : FVec F S1024x100000 .f32) (main_v6 : FVec F S1024x100000 .f32) (main_v17 : FVec F S1024x100000 .f32) (main_v19 : FVec F S1024x100000 .f32) (main_cst_2 : FVec F S_ .f32) : IVec S1024 1 :=
  let main_v20 : FVec F S1024 .f32 := (fun x v => Host.reduce FloatOps.maximumf x v reducesTo_S1024x100000_S1024_d1 h_S_) main_v19 main_cst_2
  let main_v21 : FVec F S1024x1 .f32 := broadcastInDim S1024x1 ![0] bcast_S1024_S1024x1_0 main_v20
  let main_v22 : FVec F S1024x100000 .f32 := mulf main_v17 main_v6
  let main_cst_3 : FVec F S_ .f32 := constant S_ .f32 0x00000000#32
  let main_v23 : FVec F S1024 .f32 := (fun x v => Host.reduceAdd x v reducesTo_S1024x100000_S1024_d1 h_S_) main_v22 main_cst_3
  let main_v24 : FVec F S1024x1 .f32 := broadcastInDim S1024x1 ![0] bcast_S1024_S1024x1_0 main_v23
  let main_cst_4 : FVec F S_ .f32 := constant S_ .f32 0x3F800000#32
  let main_v25 : FVec F S1024x1 .f32 := broadcastInDim S1024x1 ![] bcast_S_S1024x1 main_cst_4
  let main_v26 : FVec F S1024x1 .f32 := subf main_v24 main_v25
  let main_v27 : FVec F S1024x1 .f32 := Host.divf main_v26 main_v21
  let main_cst_5 : FVec F S_ .f32 := constant S_ .f32 0x3C800000#32
  let main_v28 : FVec F S1024x1 .f32 := broadcastInDim S1024x1 ![] bcast_S_S1024x1 main_cst_5
  let main_v29 : FVec F S1024x1 .f32 := subf main_v27 main_v28
  let main_v30 : FVec F S1024x100000 .f32 := broadcastInDim S1024x100000 ![0, 1] bcast_S1024x1_S1024x100000_0_1 main_v29
  let main_v31 : IVec S1024x100000 1 := cmpf .ogt main_v3 main_v30
  let main_v32 : FVec F S1024x100000 .f32 := uitofp .f32 main_v31
  let main_v33 : FVec F S1024x100000 .f32 := mulf main_v32 main_v3
  let main_cst_6 : FVec F S_ .f32 := constant S_ .f32 0x00000000#32
  let main_v34 : FVec F S1024 .f32 := (fun x v => Host.reduceAdd x v reducesTo_S1024x100000_S1024_d1 h_S_) main_v33 main_cst_6
  let main_v35 : FVec F S1024x1 .f32 := broadcastInDim S1024x1 ![0] bcast_S1024_S1024x1_0 main_v34
  let main_cst_7 : FVec F S_ .f32 := constant S_ .f32 0x3F800000#32
  let main_v36 : FVec F S1024x1 .f32 := broadcastInDim S1024x1 ![] bcast_S_S1024x1 main_cst_7
  let main_v37 : FVec F S1024x1 .f32 := subf main_v35 main_v36
  let main_cst_8 : FVec F S_ .f32 := constant S_ .f32 0x00000000#32
  fn_part2 (F := F) main_arg1 main_v3 main_v27 main_v32 main_v37 main_cst_8

def fn {F : FTy → Type} [FloatOps F] (main_arg0 : FVec F S1024x100000 .f32) (main_arg1 : IVec S1024 32) : IVec S1024 1 :=
  let main_cst : FVec F S_ .f32 := constant S_ .f32 0xFF800000#32
  let main_v0 : FVec F S1024 .f32 := (fun x v => Host.reduce FloatOps.maximumf x v reducesTo_S1024x100000_S1024_d1 h_S_) main_arg0 main_cst
  let main_v1 : FVec F S1024x1 .f32 := broadcastInDim S1024x1 ![0] bcast_S1024_S1024x1_0 main_v0
  let main_v2 : FVec F S1024x100000 .f32 := broadcastInDim S1024x100000 ![0, 1] bcast_S1024x1_S1024x100000_0_1 main_v1
  let main_v3 : FVec F S1024x100000 .f32 := subf main_arg0 main_v2
  let main_v4 : FVec F S1024x100000 .f32 := Host.negf main_v3
  let main_v5 : FVec F S1024x100000 .f32 := fn_sort (F := F) main_v4
  let main_v6 : FVec F S1024x100000 .f32 := Host.negf main_v5
  let main_v7 : FVec F S100000 .f32 := sitofp .f32 (iotaInDim S100000 32 0)
  let main_cst_0 : FVec F S_ .f32 := constant S_ .f32 0x3F800000#32
  let main_v8 : FVec F S100000 .f32 := broadcastInDim S100000 ![] bcast_S_S100000 main_cst_0
  let main_v9 : FVec F S100000 .f32 := addf main_v8 main_v7
  let main_v10 : FVec F S1x100000 .f32 := broadcastInDim S1x100000 ![1] bcast_S100000_S1x100000_1 main_v9
  let main_v11 : FVec F S1024x100000 .f32 := broadcastInDim S1024x100000 ![0, 1] bcast_S1x100000_S1024x100000_0_1 main_v10
  let main_v12 : FVec F S1024x100000 .f32 := mulf main_v11 main_v6
  let main_cst_1 : FVec F S_ .f32 := constant S_ .f32 0x3F800000#32
  let main_v13 : FVec F S1024x100000 .f32 := broadcastInDim S1024x100000 ![] bcast_S_S1024x100000 main_cst_1
  let main_v14 : FVec F S1024x100000 .f32 := addf main_v13 main_v12
  let main_v15 : FVec F S1024x100000 .f32 := fn_cumsum (F := F) main_v6
  let main_v16 : IVec S1024x100000 1 := cmpf .ogt main_v14 main_v15
  let main_v17 : FVec F S1024x100000 .f32 := uitofp .f32 main_v16
  let main_v18 : FVec F S1024x100000 .f32 := broadcastInDim S1024x100000 ![0, 1] bcast_S1x100000_S1024x100000_0_1 main_v10
  let main_v19 : FVec F S1024x100000 .f32 := mulf main_v17 main_v18
  let main_cst_2 : FVec F S_ .f32 := constant S_ .f32 0xFF800000#32
  fn_part1 (F := F) main_arg1 main_v3 main_v6 main_v17 main_v19 main_cst_2
-- ==== Kernel.lean ====
abbrev S1024x100000 : Shape := ⟨2, ![1024, 100000]⟩
abbrev S1024 : Shape := ⟨1, ![1024]⟩
abbrev S32x1x32 : Shape := ⟨3, ![32, 1, 32]⟩
abbrev S1x1 : Shape := ⟨2, ![1, 1]⟩
abbrev S1x1x32 : Shape := ⟨3, ![1, 1, 32]⟩
abbrev S32x100000 : Shape := ⟨2, ![32, 100000]⟩
abbrev S32 : Shape := ⟨1, ![32]⟩
abbrev S32x1 : Shape := ⟨2, ![32, 1]⟩
abbrev S1x32 : Shape := ⟨2, ![1, 32]⟩
abbrev S1 : Shape := ⟨1, ![1]⟩

abbrev nBuf : Space → Nat
  | .hbm => 4
  | .vmem => 5
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S32x1x32, .i32⟩
  | .hbm, ⟨3, _⟩ => ⟨S1x1, .f32⟩
  | .local _ .vmem, ⟨0, _⟩ => ⟨S1x1x32, .i32⟩
  | .local _ .vmem, ⟨1, _⟩ => ⟨S1x1x32, .i32⟩
  | .local _ .vmem, ⟨2, _⟩ => ⟨S32x100000, .f32⟩
  | .local _ .vmem, ⟨3, _⟩ => ⟨S32x100000, .f32⟩
  | .local _ .vmem, ⟨4, _⟩ => ⟨S1x1, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x100000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩
abbrev S100000 : Shape := ⟨1, ![100000]⟩
abbrev S1x100000 : Shape := ⟨2, ![1, 100000]⟩
abbrev S1x1 : Shape := ⟨2, ![1, 1]⟩

abbrev nBuf : Space → Nat
  | .hbm => 78
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S1024x1, .i32⟩
  | .hbm, ⟨18, _⟩ => ⟨S1024x1, .i32⟩
  | .hbm, ⟨19, _⟩ => ⟨S1024x2, .i32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S1024x1, .f32⟩
  | .hbm, ⟨24, _⟩ => ⟨S1024x100000, .f32⟩
  | .hbm, ⟨25, _⟩ => ⟨S1024x100000, .f32⟩
  | .hbm, ⟨26, _⟩ => ⟨S1024x100000, .f32⟩
  | .hbm, ⟨27, _⟩ => ⟨S1024x100000, .f32⟩
  | .hbm, ⟨28, _⟩ => ⟨S1024x100000, .f32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S1x100000, .f32⟩
  | .hbm, ⟨34, _⟩ => ⟨S1024x100000, .f32⟩
  | .hbm, ⟨35, _⟩ => ⟨S1024x100000, .f32⟩
  | .hbm, ⟨36, _⟩ => ⟨S_, .f32⟩
  | .hbm, ⟨37, _⟩ => ⟨S1024x100000, .f32⟩
  | .hbm, ⟨38, _⟩ => ⟨S1024x100000, .f32⟩
  | .hbm, ⟨39, _⟩ => ⟨S_, .f32⟩
  | .hbm, ⟨40, _⟩ => ⟨S_, .f32⟩
  | .hbm, ⟨41, _⟩ => ⟨S1024x100000, .f32⟩
  | .hbm, ⟨42, _⟩ => ⟨S1024x100000, .i1⟩
  | .hbm, ⟨43, _⟩ => ⟨S1024x100000, .f32⟩
  | .hbm, ⟨44, _⟩ => ⟨S1024x100000, .f32⟩
  | .hbm, ⟨45, _⟩ => ⟨S1024x100000, .f32⟩
  | .hbm, ⟨46, _⟩ => ⟨S_, .f32⟩
  | .hbm, ⟨47, _⟩ => ⟨S1024, .f32⟩
  | .hbm, ⟨48, _⟩ => ⟨S1024x1, .f32⟩
  | .hbm, ⟨49, _⟩ => ⟨S1024x100000, .f32⟩
  | .hbm, ⟨50, _⟩ => ⟨S_, .f32⟩
  | .hbm, ⟨51, _⟩ => ⟨S1024, .f32⟩
  | .hbm, ⟨52, _⟩ => ⟨S1024x1, .f32⟩
  | .hbm, ⟨53, _⟩ => ⟨S_, .f32⟩
  | .hbm, ⟨54, _⟩ => ⟨S1024x1, .f32⟩
  | .hbm, ⟨55, _⟩ => ⟨S1024x1, .f32⟩
  | .hbm, ⟨56, _⟩ => ⟨S1024x1, .f32⟩
  | .hbm, ⟨57, _⟩ => ⟨S1024x100000, .f32⟩
  | .hbm, ⟨58, _⟩ => ⟨S1024x1, .f32⟩
  | .hbm, ⟨59, _⟩ => ⟨S_, .f32⟩
  | .hbm, ⟨60, _⟩ => ⟨S1024x100000, .f32⟩
  | .hbm, ⟨61, _⟩ => ⟨S1024x100000, .f32⟩
  | .hbm, ⟨62, _⟩ => ⟨S1024x100000, .f32⟩
  | .hbm, ⟨63, _⟩ => ⟨S1024x100000, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S_, .f32⟩
  | .hbm, ⟨70, _⟩ => ⟨S1024, .f32⟩
  | .hbm, ⟨71, _⟩ => ⟨S1024, .f32⟩
  | .hbm, ⟨72, _⟩ => ⟨S1024, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S1x1, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_1 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_call1_call0_cst : Ref sig .tc := ⟨.hbm, 39, rfl⟩
abbrev main_call1_call0_v0 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_6 : Ref sig .tc := ⟨.hbm, 50, rfl⟩
abbrev main_v38 : Ref sig .tc := ⟨.hbm, 51, rfl⟩
abbrev main_v39 : Ref sig .tc := ⟨.hbm, 52, rfl⟩
abbrev main_cst_7 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Proof.Threshold.lean ====
/-
  The sparsemax threshold of a finite family of reals, and the two iterations that reach it.

  `excess y t` is the sum of the parts of the entries above `t`. The threshold is the `θ` at which the excess is 1.
  `newton y t` is the average that solves "excess = 1" on the entries above `t`. From below the threshold it moves up,
  never past the threshold, it is monotone, and each step leaves at least one entry fewer strictly between the current
  point and the threshold, so `n + 1` steps reach it when at most `n` entries lie between.
-/
module

public import Mathlib.Analysis.SpecialFunctions.Pow.Real
public import Mathlib.Topology.Order.IntermediateValue
public import Mathlib.Tactic.Linarith

@[expose] public section

noncomputable section

namespace Cert.Threshold

open Finset

variable {ι : Type} [Fintype ι]

/-- The sum of what the entries exceed `t` by. -/
def excess (y : ι → ℝ) (t : ℝ) : ℝ := ∑ i, max (y i - t) 0

/-- How many entries lie above `t`. -/
def cnt (y : ι → ℝ) (t : ℝ) : ℝ := ∑ i, if t < y i then (1 : ℝ) else 0

/-- The sum of the entries above `t`. -/
def top (y : ι → ℝ) (t : ℝ) : ℝ := ∑ i, if t < y i then y i else 0

/-- The point at which the entries above `t` would exceed by one in total. -/
def newton (y : ι → ℝ) (t : ℝ) : ℝ := (top y t - 1) / cnt y t

/-- How many entries lie strictly between `t` and `θ`. -/
def between (y : ι → ℝ) (t θ : ℝ) : ℕ := (univ.filter fun i => t < y i ∧ y i < θ).card

theorem top_sub_cnt_mul (y : ι → ℝ) (t u : ℝ) : top y t - cnt y t * u = ∑ i, if t < y i then y i - u else 0 := by
  unfold top cnt
  rw [Finset.sum_mul, ← Finset.sum_sub_distrib]
  refine Finset.sum_congr rfl fun i _ => ?_
  split_ifs <;> ring

theorem excess_eq (y : ι → ℝ) (t : ℝ) : excess y t = top y t - cnt y t * t := by
  rw [top_sub_cnt_mul]
  refine Finset.sum_congr rfl fun i _ => ?_
  split_ifs with h
  · exact max_eq_left (by linarith)
  · exact max_eq_right (by linarith)

theorem excess_anti (y : ι → ℝ) {s t : ℝ} (h : s ≤ t) : excess y t ≤ excess y s :=
  Finset.sum_le_sum fun i _ => max_le_max (by linarith) le_rfl

/-- Strictly below a point of positive excess the excess is larger. -/
theorem excess_strict (y : ι → ℝ) {s t : ℝ} (h : s < t) (ht : 0 < excess y t) : excess y t < excess y s := by
  obtain ⟨i, -, hi⟩ : ∃ i ∈ (univ : Finset ι), 0 < max (y i - t) 0 := by
    by_contra hc
    push Not at hc
    exact absurd (Finset.sum_nonpos hc) (not_le.mpr ht)
  have hi' : 0 < y i - t := by
    rcases lt_max_iff.mp hi with h1 | h1
    · exact h1
    · exact absurd h1 (lt_irrefl _)
  refine Finset.sum_lt_sum (fun j _ => max_le_max (by linarith) le_rfl) ⟨i, mem_univ _, ?_⟩
  rw [max_eq_left hi'.le, max_eq_left (by linarith)]
  linarith

theorem le_of_one_le_excess (y : ι → ℝ) {t θ : ℝ} (hθ : excess y θ = 1) (ht : 1 ≤ excess y t) : t ≤ θ := by
  by_contra hc
  have := excess_strict y (not_le.mp hc) (by linarith)
  linarith

theorem lt_of_one_lt_excess (y : ι → ℝ) {t θ : ℝ} (hθ : excess y θ = 1) (ht : 1 < excess y t) : t < θ := by
  by_contra hc
  have := excess_anti y (not_lt.mp hc)
  linarith

theorem le_of_excess_le_one (y : ι → ℝ) {t θ : ℝ} (hθ : excess y θ = 1) (ht : excess y t ≤ 1) : θ ≤ t := by
  by_contra hc
  have := excess_strict y (not_le.mp hc) (by linarith)
  linarith

theorem one_le_excess (y : ι → ℝ) {t θ : ℝ} (hθ : excess y θ = 1) (ht : t ≤ θ) : 1 ≤ excess y t := by
  have := excess_anti y ht
  linarith

/-- A threshold exists within one below the greatest entry. -/
theorem exists_threshold (y : ι → ℝ) (M : ℝ) (hM : ∀ i, y i ≤ M) (hex : ∃ i, y i = M) :
    ∃ θ, M - 1 ≤ θ ∧ θ < M ∧ excess y θ = 1 := by
  have hcont : Continuous (excess y) := by
    unfold excess
    exact continuous_finset_sum _ fun i _ => (continuous_const.sub continuous_id).max continuous_const
  obtain ⟨i0, hi0⟩ := hex
  have h0 : excess y M = 0 := Finset.sum_eq_zero fun i _ => max_eq_right (by linarith [hM i])
  have h1 : 1 ≤ excess y (M - 1) := by
    have := Finset.single_le_sum (f := fun i => max (y i - (M - 1)) 0) (fun i _ => le_max_right _ _) (mem_univ i0)
    refine le_trans ?_ this
    show 1 ≤ max (y i0 - (M - 1)) 0
    rw [hi0]
    exact le_max_of_le_left (by linarith)
  obtain ⟨θ, ⟨ha, hb⟩, hθ⟩ := intermediate_value_Icc' (by linarith : M - 1 ≤ M) hcont.continuousOn
    (show (1 : ℝ) ∈ Set.Icc (excess y M) (excess y (M - 1)) from ⟨by linarith, h1⟩)
  refine ⟨θ, ha, lt_of_le_of_ne hb ?_, hθ⟩
  rintro rfl
  linarith

theorem cnt_nonneg (y : ι → ℝ) (t : ℝ) : 0 ≤ cnt y t := Finset.sum_nonneg fun i _ => by split_ifs <;> norm_num

/-- Some entry lies above a point of positive excess. -/
theorem cnt_pos (y : ι → ℝ) {t : ℝ} (h : 0 < excess y t) : 0 < cnt y t := by
  refine lt_of_le_of_ne (cnt_nonneg y t) fun hc => ?_
  have hz : ∀ i ∈ (univ : Finset ι), (if t < y i then (1 : ℝ) else 0) = 0 :=
    (Finset.sum_eq_zero_iff_of_nonneg fun i _ => by split_ifs <;> norm_num).mp hc.symm
  have : excess y t = 0 := Finset.sum_eq_zero fun i hi => by
    have := hz i hi
    split_ifs at this with h1
    · norm_num at this
    · exact max_eq_right (by linarith)
  linarith

theorem sum_sub_newton (y : ι → ℝ) {t : ℝ} (h : 0 < excess y t) :
    (∑ i, if t < y i then y i - newton y t else 0) = 1 := by
  rw [← top_sub_cnt_mul]
  have := (cnt_pos y h).ne'
  unfold newton
  field_simp
  ring

/-- The step is at least `u` exactly when the entries above `t` exceed `u` by at least one. -/
theorem le_newton (y : ι → ℝ) {t u : ℝ} (h : 0 < excess y t) (hu : 1 ≤ ∑ i, if t < y i then y i - u else 0) :
    u ≤ newton y t := by
  rw [← top_sub_cnt_mul] at hu
  unfold newton
  rw [le_div_iff₀ (cnt_pos y h)]
  linarith

theorem self_le_newton (y : ι → ℝ) {t : ℝ} (h : 1 ≤ excess y t) : t ≤ newton y t := by
  refine le_newton y (by linarith) ?_
  rw [← top_sub_cnt_mul, ← excess_eq]
  exact h

theorem one_le_excess_newton (y : ι → ℝ) {t : ℝ} (h : 1 ≤ excess y t) : 1 ≤ excess y (newton y t) := by
  rw [← sum_sub_newton y (by linarith : 0 < excess y t)]
  refine Finset.sum_le_sum fun i _ => ?_
  split_ifs
  · exact le_max_left _ _
  · exact le_max_right _ _

theorem newton_le (y : ι → ℝ) {t θ : ℝ} (hθ : excess y θ = 1) (ht : t ≤ θ) : newton y t ≤ θ :=
  le_of_one_le_excess y hθ (one_le_excess_newton y (one_le_excess y hθ ht))

/-- With no entry strictly between, one step lands on the threshold. -/
theorem newton_eq (y : ι → ℝ) {t θ : ℝ} (hθ : excess y θ = 1) (ht : t ≤ θ) (h : between y t θ = 0) : newton y t = θ := by
  refine le_antisymm (newton_le y hθ ht) (le_newton y (by linarith [one_le_excess y hθ ht]) ?_)
  rw [← hθ]
  refine le_of_eq (Finset.sum_congr rfl fun i _ => ?_)
  have hi : ¬(t < y i ∧ y i < θ) := by
    intro hc
    exact absurd h (Finset.card_pos.mpr ⟨i, Finset.mem_filter.mpr ⟨mem_univ _, hc⟩⟩).ne'
  split_ifs with h1
  · exact max_eq_left (by have := not_and.mp hi h1; linarith)
  · exact max_eq_right (by linarith)

theorem between_anti (y : ι → ℝ) {s t θ : ℝ} (h : s ≤ t) : between y t θ ≤ between y s θ :=
  Finset.card_le_card fun i hi => by
    simp only [Finset.mem_filter, mem_univ, true_and] at hi ⊢
    exact ⟨lt_of_le_of_lt h hi.1, hi.2⟩

/-- A step leaves at least one entry fewer between the point and the threshold, or none. -/
theorem between_newton (y : ι → ℝ) {t θ : ℝ} (hθ : excess y θ = 1) (ht : t ≤ θ) :
    between y (newton y t) θ ≤ between y t θ - 1 := by
  have h1 := one_le_excess y hθ ht
  have hle := self_le_newton y h1
  by_contra hc
  have hcard : between y t θ ≤ between y (newton y t) θ := by
    have := between_anti y hle (θ := θ)
    omega
  have hsub : (univ.filter fun i => newton y t < y i ∧ y i < θ) ⊆ univ.filter fun i => t < y i ∧ y i < θ := fun i hi => by
    simp only [Finset.mem_filter, mem_univ, true_and] at hi ⊢
    exact ⟨lt_of_le_of_lt hle hi.1, hi.2⟩
  have heq := Finset.eq_of_subset_of_card_le hsub hcard
  have hex : excess y (newton y t) = 1 := by
    rw [← sum_sub_newton y (by linarith : 0 < excess y t)]
    refine Finset.sum_congr rfl fun i _ => ?_
    split_ifs with hi
    · refine max_eq_left ?_
      rcases lt_or_ge (y i) θ with h2 | h2
      · have hm : i ∈ univ.filter fun i => newton y t < y i ∧ y i < θ := by
          rw [heq]; exact Finset.mem_filter.mpr ⟨mem_univ _, hi, h2⟩
        linarith [(Finset.mem_filter.mp hm).2.1]
      · linarith [newton_le y hθ ht]
    · exact max_eq_right (by linarith)
  have hn : newton y t = θ := le_antisymm (newton_le y hθ ht) (le_of_excess_le_one y hθ hex.le)
  have hz : between y (newton y t) θ = 0 := by
    rw [hn]
    refine Finset.card_eq_zero.mpr (Finset.filter_eq_empty_iff.mpr fun i _ hi => ?_)
    exact absurd (hi.1.trans hi.2) (lt_irrefl _)
  omega

/-- From further up, still below the threshold, a step goes at least as far. -/
theorem newton_mono (y : ι → ℝ) {s t θ : ℝ} (hθ : excess y θ = 1) (hst : s ≤ t) (ht : t ≤ θ) : newton y s ≤ newton y t := by
  have hs1 := one_le_excess y hθ (hst.trans ht)
  have ht1 := one_le_excess y hθ ht
  rcases le_or_gt (newton y s) t with h | h
  · exact h.trans (self_le_newton y ht1)
  · refine le_newton y (by linarith) ?_
    rw [← sum_sub_newton y (by linarith : 0 < excess y s)]
    refine Finset.sum_le_sum fun i _ => ?_
    split_ifs with h1 h2 h2
    · exact le_rfl
    · linarith
    · linarith
    · exact le_rfl

/-- Four steps, each the greater of the point and its step, reach the threshold from any point between `s` and the
    threshold, when one step from `s` leaves at most two entries between. -/
theorem four_steps (y : ι → ℝ) {s t θ : ℝ} (hθ : excess y θ = 1) (hst : s ≤ t) (ht : t ≤ θ)
    (hfew : between y (newton y s) θ ≤ 2) :
    max t (newton y t) ≤ θ
    ∧ max (max t (newton y t)) (newton y (max t (newton y t))) ≤ θ
    ∧ max (max (max t (newton y t)) (newton y (max t (newton y t))))
        (newton y (max (max t (newton y t)) (newton y (max t (newton y t))))) ≤ θ
    ∧ newton y (max (max (max t (newton y t)) (newton y (max t (newton y t))))
        (newton y (max (max t (newton y t)) (newton y (max t (newton y t)))))) = θ := by
  have key : ∀ u, u ≤ θ → max u (newton y u) = newton y u ∧ newton y u ≤ θ := fun u hu =>
    ⟨max_eq_right (self_le_newton y (one_le_excess y hθ hu)), newton_le y hθ hu⟩
  obtain ⟨e1, l1⟩ := key t ht
  rw [e1]
  obtain ⟨e2, l2⟩ := key _ l1
  rw [e2]
  obtain ⟨e3, l3⟩ := key _ l2
  rw [e3]
  refine ⟨l1, l2, l3, newton_eq y hθ l3 ?_⟩
  have b1 : between y (newton y t) θ ≤ 2 := (between_anti y (newton_mono y hθ hst ht)).trans hfew
  have b2 := between_newton y hθ l1
  have b3 := between_newton y hθ l2
  omega

/-- One halving of an interval holding the threshold: the lower end. -/
def low (y : ι → ℝ) (a b : ℝ) : ℝ := if 1 < excess y (1 / 2 * (a + b)) then 1 / 2 * (a + b) else a

/-- One halving of an interval holding the threshold: the upper end. -/
def high (y : ι → ℝ) (a b : ℝ) : ℝ := if 1 < excess y (1 / 2 * (a + b)) then b else 1 / 2 * (a + b)

theorem halve (y : ι → ℝ) {a b θ w : ℝ} (hθ : excess y θ = 1) (ha : a ≤ θ) (hb : θ ≤ b) (hw : b = a + w) :
    low y a b ≤ θ ∧ θ ≤ high y a b ∧ high y a b = low y a b + w / 2 ∧ a ≤ low y a b := by
  have hwn : 0 ≤ w := by linarith
  unfold low high
  split_ifs with h
  · exact ⟨(lt_of_one_lt_excess y hθ h).le, hb, by linarith, by linarith⟩
  · exact ⟨ha, le_of_excess_le_one y hθ (not_lt.mp h), by linarith, le_rfl⟩

end Cert.Threshold

end
-- ==== Proof.Row.lean ====
/-
  One row over the extended reals: the kernel's halvings and steps, read on a row whose greatest entry is real.

  Entries far below the greatest one (minus infinity among them) never matter, so the row is clipped from below to a
  family of reals, and every sum the kernel takes at a real point is that family's sum (`Threshold.lean`).
-/
module

public import proofs.«01_k».proof.Proof.Threshold
public import Idealize.ShloMosaic.PureOps.Ideal

@[expose] public section

noncomputable section

namespace Cert.Row

open Finset Idealize.ShloMosaic Cert.Threshold

variable {ι : Type} [Fintype ι]

/-- The sum of what the entries exceed `t` by. -/
def eExcess (x : ι → EReal) (t : EReal) : EReal := ∑ i, max (x i - t) 0

/-- How many entries lie above `t`. -/
def eCnt (x : ι → EReal) (t : EReal) : EReal := ∑ i, if t < x i then (1 : EReal) else 0

/-- The sum of the entries above `t`. -/
def eTop (x : ι → EReal) (t : EReal) : EReal := ∑ i, if t < x i then x i else 0

/-- The average that solves "excess = 1" on the entries above `t`. -/
def eNewton (x : ι → EReal) (t : EReal) : EReal := Ideal.div (eTop x t - 1) (eCnt x t)

/-- One step of the kernel's iteration. -/
def eStep (x : ι → EReal) (t : EReal) : EReal := max t (eNewton x t)

/-- The middle of an interval. -/
def eMid (a b : EReal) : EReal := ((1 / 2 : ℝ) : EReal) * (a + b)

/-- One halving, the lower end. -/
def eLow (x : ι → EReal) (a b : EReal) : EReal := if 1 < eExcess x (eMid a b) then eMid a b else a

/-- One halving, the upper end. -/
def eHigh (x : ι → EReal) (a b : EReal) : EReal := if 1 < eExcess x (eMid a b) then b else eMid a b

/-- The interval after `n` halvings. -/
def bracket (x : ι → EReal) (m : EReal) : ℕ → EReal × EReal
  | 0 => (m - 1, m)
  | n + 1 => (eLow x (bracket x m n).1 (bracket x m n).2, eHigh x (bracket x m n).1 (bracket x m n).2)

/-- The kernel's threshold of a row with greatest entry `m`: six halvings, then four steps. -/
def kTau (x : ι → EReal) (m : EReal) : EReal := eStep x (eStep x (eStep x (eStep x (bracket x m 6).1)))

/-- The row's loss, from its greatest entry, its threshold and the entry at its label. -/
def loss (x : ι → EReal) (m tau zk : EReal) : EReal :=
  ((1 / 2 : ℝ) : EReal) * (∑ i, max ((x i - m) * (x i - m) - (tau - m) * (tau - m)) 0 + 1) - zk

/-- The row clipped from below at `L`, as reals. -/
def clip (L : ℝ) (x : ι → EReal) (i : ι) : ℝ := (max (x i) (L : EReal)).toReal

theorem coe_sum {κ : Type} (s : Finset κ) (f : κ → ℝ) : ((∑ i ∈ s, f i : ℝ) : EReal) = ∑ i ∈ s, (f i : EReal) :=
  map_sum (⟨⟨fun r : ℝ => (r : EReal), EReal.coe_zero⟩, EReal.coe_add⟩ : ℝ →+ EReal) f s

theorem coe_clip (L : ℝ) (x : ι → EReal) (i : ι) (h : x i ≠ ⊤) : (clip L x i : EReal) = max (x i) (L : EReal) := by
  unfold clip
  refine EReal.coe_toReal ?_ ?_
  · intro hc
    rcases max_choice (x i) (L : EReal) with h1 | h1 <;> rw [h1] at hc
    · exact h hc
    · exact EReal.coe_ne_top L hc
  · exact ne_of_gt (lt_of_lt_of_le (EReal.bot_lt_coe L) (le_max_right _ _))

theorem lt_clip (L : ℝ) (x : ι → EReal) (i : ι) (h : x i ≠ ⊤) {t : ℝ} (ht : L ≤ t) : (t : EReal) < x i ↔ t < clip L x i := by
  rw [← EReal.coe_lt_coe_iff, coe_clip L x i h, lt_max_iff]
  refine ⟨Or.inl, fun hc => hc.resolve_right fun h1 => ?_⟩
  rw [EReal.coe_lt_coe_iff] at h1
  linarith

theorem clip_eq (L : ℝ) (x : ι → EReal) (i : ι) (h : x i ≠ ⊤) (hL : (L : EReal) ≤ x i) : (clip L x i : EReal) = x i := by
  rw [coe_clip L x i h, max_eq_left hL]

theorem clip_eq_of_lt (L : ℝ) (x : ι → EReal) (i : ι) (h : x i ≠ ⊤) {t : ℝ} (ht : L ≤ t) (hl : (t : EReal) < x i) :
    (clip L x i : EReal) = x i :=
  clip_eq L x i h (le_trans (EReal.coe_le_coe_iff.mpr ht) hl.le)

theorem sub_coe_nonpos {x : EReal} {t : ℝ} (h : x ≤ (t : EReal)) : x - (t : EReal) ≤ 0 := by
  induction x with
  | bot => rw [EReal.bot_sub]; exact bot_le
  | coe r => rw [← EReal.coe_sub, ← EReal.coe_zero, EReal.coe_le_coe_iff]; rw [EReal.coe_le_coe_iff] at h; linarith
  | top => exact absurd h (not_le.mpr (EReal.coe_lt_top t))

theorem eExcess_coe (L : ℝ) (x : ι → EReal) (hx : ∀ i, x i ≠ ⊤) {t : ℝ} (ht : L ≤ t) :
    eExcess x t = (excess (clip L x) t : EReal) := by
  unfold eExcess excess
  rw [coe_sum]
  refine Finset.sum_congr rfl fun i _ => ?_
  by_cases h : (t : EReal) < x i
  · have h1 := (lt_clip L x i (hx i) ht).mp h
    rw [← clip_eq_of_lt L x i (hx i) ht h, max_eq_left (by linarith : (0 : ℝ) ≤ clip L x i - t), ← EReal.coe_sub]
    exact max_eq_left (by rw [← EReal.coe_zero, EReal.coe_le_coe_iff]; linarith)
  · have h1 : ¬ t < clip L x i := fun hc => h ((lt_clip L x i (hx i) ht).mpr hc)
    rw [max_eq_right (by linarith : clip L x i - t ≤ 0), EReal.coe_zero]
    exact max_eq_right (sub_coe_nonpos (not_lt.mp h))

theorem eCnt_coe (L : ℝ) (x : ι → EReal) (hx : ∀ i, x i ≠ ⊤) {t : ℝ} (ht : L ≤ t) :
    eCnt x t = (cnt (clip L x) t : EReal) := by
  unfold eCnt cnt
  rw [coe_sum]
  refine Finset.sum_congr rfl fun i _ => ?_
  simp only [lt_clip L x i (hx i) ht]
  split_ifs <;> simp

theorem eTop_coe (L : ℝ) (x : ι → EReal) (hx : ∀ i, x i ≠ ⊤) {t : ℝ} (ht : L ≤ t) :
    eTop x t = (top (clip L x) t : EReal) := by
  unfold eTop top
  rw [coe_sum]
  refine Finset.sum_congr rfl fun i _ => ?_
  by_cases h : (t : EReal) < x i
  · rw [if_pos h, if_pos ((lt_clip L x i (hx i) ht).mp h), clip_eq_of_lt L x i (hx i) ht h]
  · rw [if_neg h, if_neg (fun hc => h ((lt_clip L x i (hx i) ht).mpr hc)), EReal.coe_zero]

theorem div_coe_coe {a b : ℝ} (hb : b ≠ 0) : Ideal.div (a : EReal) (b : EReal) = ((a / b : ℝ) : EReal) := by
  rw [Ideal.div_coe hb, ← EReal.coe_mul]
  congr 1
  ring

theorem eNewton_coe (L : ℝ) (x : ι → EReal) (hx : ∀ i, x i ≠ ⊤) {t : ℝ} (ht : L ≤ t) (hp : 0 < excess (clip L x) t) :
    eNewton x t = (newton (clip L x) t : EReal) := by
  unfold eNewton newton
  rw [eTop_coe L x hx ht, eCnt_coe L x hx ht, ← EReal.coe_one, ← EReal.coe_sub, div_coe_coe (cnt_pos _ hp).ne']

theorem coe_max (a b : ℝ) : ((max a b : ℝ) : EReal) = max (a : EReal) (b : EReal) :=
  Monotone.map_max (fun _ _ h => EReal.coe_le_coe_iff.mpr h)

theorem eStep_coe (L : ℝ) (x : ι → EReal) (hx : ∀ i, x i ≠ ⊤) {t : ℝ} (ht : L ≤ t) (hp : 0 < excess (clip L x) t) :
    eStep x t = ((max t (newton (clip L x) t) : ℝ) : EReal) := by
  unfold eStep
  rw [eNewton_coe L x hx ht hp, coe_max]

theorem eMid_coe (a b : ℝ) : eMid a b = ((1 / 2 * (a + b) : ℝ) : EReal) := by
  unfold eMid
  rw [← EReal.coe_add, ← EReal.coe_mul]

theorem eLow_coe (L : ℝ) (x : ι → EReal) (hx : ∀ i, x i ≠ ⊤) {a b : ℝ} (h : L ≤ 1 / 2 * (a + b)) :
    eLow x a b = (low (clip L x) a b : EReal) := by
  unfold eLow low
  rw [eMid_coe, eExcess_coe L x hx h, ← EReal.coe_one]
  simp only [EReal.coe_lt_coe_iff]
  split_ifs <;> rfl

theorem eHigh_coe (L : ℝ) (x : ι → EReal) (hx : ∀ i, x i ≠ ⊤) {a b : ℝ} (h : L ≤ 1 / 2 * (a + b)) :
    eHigh x a b = (high (clip L x) a b : EReal) := by
  unfold eHigh high
  rw [eMid_coe, eExcess_coe L x hx h, ← EReal.coe_one]
  simp only [EReal.coe_lt_coe_iff]
  split_ifs <;> rfl

/-- After `n` halvings the interval is real, holds the threshold and has length `2⁻ⁿ`. -/
theorem bracket_coe (x : ι → EReal) (hx : ∀ i, x i ≠ ⊤) (M θ : ℝ) (hθ : excess (clip (M - 2) x) θ = 1)
    (h0 : M - 1 ≤ θ) (h1 : θ < M) (n : ℕ) : ∃ a b : ℝ, bracket x M n = ((a : EReal), (b : EReal)) ∧ a ≤ θ ∧ θ ≤ b
      ∧ b = a + (1 / 2) ^ n ∧ M - 1 ≤ a := by
  induction n with
  | zero =>
    refine ⟨M - 1, M, ?_, h0, h1.le, by norm_num, le_rfl⟩
    simp only [bracket, EReal.coe_sub, EReal.coe_one]
  | succ n ih =>
    obtain ⟨a, b, e, ha, hb, hw, hM⟩ := ih
    have hmid : M - 2 ≤ 1 / 2 * (a + b) := by linarith
    obtain ⟨k1, k2, k3, k4⟩ := halve (clip (M - 2) x) hθ ha hb hw
    refine ⟨low (clip (M - 2) x) a b, high (clip (M - 2) x) a b, ?_, k1, k2, ?_, by linarith⟩
    · show (eLow x (bracket x M n).1 (bracket x M n).2, eHigh x (bracket x M n).1 (bracket x M n).2) = _
      rw [e]
      exact Prod.ext (eLow_coe _ x hx hmid) (eHigh_coe _ x hx hmid)
    · rw [k3, pow_succ]; ring

/-- On a row with a real greatest entry `M` the kernel's threshold is the sparsemax threshold, when one step from `1/64`
    below the threshold leaves at most two entries between. -/
theorem kTau_coe (x : ι → EReal) (hx : ∀ i, x i ≠ ⊤) (M θ : ℝ) (hθ : excess (clip (M - 2) x) θ = 1)
    (h0 : M - 1 ≤ θ) (h1 : θ < M)
    (hfew : between (clip (M - 2) x) (newton (clip (M - 2) x) (θ - 1 / 64)) θ ≤ 2) : kTau x M = (θ : EReal) := by
  obtain ⟨a, b, e, ha, hb, hw, hM⟩ := bracket_coe x hx M θ hθ h0 h1 6
  have hs : θ - 1 / 64 ≤ a := by norm_num at hw; linarith
  obtain ⟨l1, l2, l3, l4⟩ := four_steps (clip (M - 2) x) hθ hs ha hfew
  unfold kTau
  rw [e]
  have st : ∀ t : ℝ, M - 2 ≤ t → t ≤ θ → eStep x t = ((max t (newton (clip (M - 2) x) t) : ℝ) : EReal) := fun t ht hl =>
    eStep_coe _ x hx ht (by linarith [one_le_excess _ hθ hl])
  have g1 : M - 2 ≤ max a (newton (clip (M - 2) x) a) := le_trans (by linarith) (le_max_left _ _)
  rw [st a (by linarith) ha, st _ g1 l1, st _ (le_trans g1 (le_max_left _ _)) l2,
    st _ (le_trans (le_trans g1 (le_max_left _ _)) (le_max_left _ _)) l3, l4, max_eq_right l3]

/-- On a row with an infinite greatest entry every lower end is that entry. -/
theorem kTau_top (x : ι → EReal) : kTau x ⊤ = ⊤ := by
  have hm : eMid ⊤ ⊤ = ⊤ := by
    unfold eMid
    rw [EReal.top_add_top]
    exact EReal.coe_mul_top_of_pos (by norm_num)
  have hb : ∀ n, bracket x ⊤ n = (⊤, ⊤) := by
    intro n
    induction n with
    | zero => exact Prod.ext (by show (⊤ : EReal) - 1 = ⊤; rw [← EReal.coe_one]; exact EReal.top_sub_coe 1) rfl
    | succ n ih =>
      show (eLow x (bracket x ⊤ n).1 (bracket x ⊤ n).2, eHigh x (bracket x ⊤ n).1 (bracket x ⊤ n).2) = _
      rw [ih]
      simp only [eLow, eHigh, hm, ite_self]
  have hs : eStep x ⊤ = ⊤ := top_sup_eq _
  unfold kTau
  rw [hb]
  simp only [hs]

theorem kTau_bot (x : ι → EReal) (hx : ∀ i, x i = ⊥) : kTau x ⊥ = ⊥ := by
  have hm : eMid ⊥ ⊥ = ⊥ := by
    unfold eMid
    rw [EReal.bot_add]
    exact EReal.coe_mul_bot_of_pos (by norm_num)
  have hb : ∀ n, bracket x ⊥ n = (⊥, ⊥) := by
    intro n
    induction n with
    | zero => exact Prod.ext (EReal.bot_sub 1) rfl
    | succ n ih =>
      show (eLow x (bracket x ⊥ n).1 (bracket x ⊥ n).2, eHigh x (bracket x ⊥ n).1 (bracket x ⊥ n).2) = _
      rw [ih]
      simp only [eLow, eHigh, hm, ite_self]
  have hs : eStep x ⊥ = ⊥ := by
    have e1 : eTop x ⊥ = 0 := Finset.sum_eq_zero fun i _ => by rw [hx i]; exact if_neg (lt_irrefl _)
    have e2 : eCnt x ⊥ = 0 := Finset.sum_eq_zero fun i _ => by rw [hx i]; exact if_neg (lt_irrefl _)
    unfold eStep eNewton
    rw [e1, e2, Ideal.div, if_pos rfl, if_neg, max_self]
    rw [zero_sub, EReal.neg_pos, not_lt]
    exact zero_le_one
  unfold kTau
  rw [hb]
  simp only [hs]

end Cert.Row

end
-- ==== Proof.Sorted.lean ====
/-
  The textbook threshold: from the sorted row, its running sums and the size of the support.

  On a row sorted downwards, the entries whose running sum stays below `1 + position * entry` are exactly those above the
  threshold; their number and their sum give the threshold back.
-/
module

public import proofs.«01_k».proof.Proof.Row

@[expose] public section

noncomputable section

namespace Cert.Sorted

open Finset Idealize.ShloMosaic Cert.Threshold Cert.Row

variable {n : ℕ}

/-- The sum of the first entries, up to `j`. -/
def running (z : Fin n → EReal) (j : Fin n) : EReal := ∑ l, if l ≤ j then z l else 0

/-- The position of an entry, counted from one. -/
def place (j : Fin n) : EReal := ((1 + (j : ℕ) : ℝ) : EReal)

/-- One where the entry belongs to the support. -/
def inside (z : Fin n → EReal) (j : Fin n) : EReal := if running z j < 1 + place j * z j then 1 else 0

/-- The size of the support. -/
def size (z : Fin n → EReal) : EReal := univ.fold max ⊥ fun j => inside z j * place j

/-- The threshold of the sorted row. -/
def rTau (z : Fin n → EReal) : EReal := Ideal.div ((∑ j, inside z j * z j) - 1) (size z)

theorem sum_le_one (j : Fin n) : (∑ l : Fin n, if l ≤ j then (1 : ℝ) else 0) = 1 + (j : ℕ) := by
  rw [Finset.sum_ite, Finset.sum_const_zero, add_zero, Finset.sum_const, nsmul_eq_mul, mul_one]
  have : (univ.filter fun l : Fin n => l ≤ j) = Finset.Iic j := by ext l; simp
  rw [this, Fin.card_Iic]
  push_cast
  ring

/-- The greatest position of a nonempty lower set is its size. -/
theorem size_lower (p : Fin n → Prop) [DecidablePred p] (hlow : ∀ j l, p j → l ≤ j → p l) (hex : ∃ j, p j) :
    (univ.fold max ⊥ fun j : Fin n => (if p j then (1 : EReal) else 0) * place j)
      = ((∑ j, if p j then (1 : ℝ) else 0 : ℝ) : EReal) := by
  apply le_antisymm
  · rw [Finset.fold_max_le]
    refine ⟨bot_le, fun j _ => ?_⟩
    by_cases h : p j
    · rw [if_pos h, one_mul, place, EReal.coe_le_coe_iff, ← sum_le_one]
      refine Finset.sum_le_sum fun l _ => ?_
      by_cases hl : l ≤ j
      · rw [if_pos hl, if_pos (hlow j l h hl)]
      · rw [if_neg hl]; split_ifs <;> norm_num
    · rw [if_neg h, zero_mul, ← EReal.coe_zero, EReal.coe_le_coe_iff]
      exact Finset.sum_nonneg fun l _ => by split_ifs <;> norm_num
  · obtain ⟨j0, h0⟩ := hex
    have hne : (univ.filter p).Nonempty := ⟨j0, by simpa using h0⟩
    have hm := Finset.max'_mem _ hne
    set j := (univ.filter p).max' hne with hj
    have hpj : p j := by simpa using hm
    rw [Finset.le_fold_max]
    refine Or.inr ⟨j, Finset.mem_univ _, ?_⟩
    rw [if_pos hpj, one_mul, place, EReal.coe_le_coe_iff, ← sum_le_one]
    refine Finset.sum_le_sum fun l _ => ?_
    by_cases hl : p l
    · rw [if_pos hl, if_pos (Finset.le_max' _ l (by simpa using hl))]
    · rw [if_neg hl]; split_ifs <;> norm_num

/-- A row sorted downwards, rearranged from the row `s` of shifted entries, with its threshold. -/
structure Row (z s : Fin n → EReal) (σ : Fin n → Fin n) (τ : ℝ) : Prop where
  anti : Antitone z
  perm : ∀ j, z j = s (σ j)
  bij : Function.Bijective σ
  nonpos : ∀ i, s i ≤ 0
  zero : ∃ i, s i = 0
  thr : excess (clip (-2) s) τ = 1
  ge : -1 ≤ τ
  neg : τ < 0

namespace Row

variable {z s : Fin n → EReal} {σ : Fin n → Fin n} {τ : ℝ} (h : Row z s σ τ)
include h

theorem ne_top (i : Fin n) : s i ≠ ⊤ := fun hc => by
  have := h.nonpos i
  rw [hc] at this
  exact absurd this (not_le.mpr (by exact EReal.coe_lt_top 0))

theorem z_ne_top (j : Fin n) : z j ≠ ⊤ := by rw [h.perm]; exact h.ne_top _

theorem excess_z (t : ℝ) : excess (clip (-2) z) t = excess (clip (-2) s) t := by
  unfold excess
  rw [← h.bij.sum_comp fun i => max (clip (-2) s i - t) 0]
  refine Finset.sum_congr rfl fun j _ => ?_
  simp only [clip, h.perm j]

theorem inside_iff (j : Fin n) : running z j < 1 + place j * z j ↔ (τ : EReal) < z j := by
  have hthr : excess (clip (-2) z) τ = 1 := by rw [h.excess_z, h.thr]
  by_cases hb : z j = ⊥
  · rw [hb, place, EReal.coe_mul_bot_of_pos (by positivity), EReal.add_bot]
    exact ⟨fun hc => absurd hc not_lt_bot, fun hc => absurd hc not_lt_bot⟩
  obtain ⟨r, hr⟩ : ∃ r : ℝ, z j = (r : EReal) := ⟨(z j).toReal, (EReal.coe_toReal (h.z_ne_top j) hb).symm⟩
  set q : Fin n → ℝ := fun l => (z l).toReal with hq
  have hqz : ∀ l, l ≤ j → (q l : EReal) = z l := fun l hl => by
    refine EReal.coe_toReal (h.z_ne_top l) (ne_of_gt ?_)
    exact lt_of_lt_of_le (by rw [hr]; exact EReal.bot_lt_coe r) (h.anti hl)
  have hqr : ∀ l, l ≤ j → r ≤ q l := fun l hl => by
    rw [← EReal.coe_le_coe_iff, hqz l hl, ← hr]
    exact h.anti hl
  have hrun : running z j = ((∑ l, if l ≤ j then q l else 0 : ℝ) : EReal) := by
    unfold running
    rw [coe_sum]
    refine Finset.sum_congr rfl fun l _ => ?_
    by_cases hl : l ≤ j
    · rw [if_pos hl, if_pos hl, hqz l hl]
    · rw [if_neg hl, if_neg hl, EReal.coe_zero]
  have hsplit : (∑ l, if l ≤ j then q l - r else 0) = (∑ l, if l ≤ j then q l else 0) - (1 + (j : ℕ)) * r := by
    rw [← sum_le_one j, Finset.sum_mul, ← Finset.sum_sub_distrib]
    refine Finset.sum_congr rfl fun l _ => ?_
    split_ifs <;> ring
  have key : running z j < 1 + place j * z j ↔ (∑ l, if l ≤ j then q l - r else 0) < 1 := by
    rw [hrun, hr, place, ← EReal.coe_mul, ← EReal.coe_one, ← EReal.coe_add, EReal.coe_lt_coe_iff, hsplit]
    constructor <;> intro hc <;> linarith
  rw [key, hr, EReal.coe_lt_coe_iff]
  have hge := h.ge
  constructor
  · intro hc
    by_contra hn
    have hle : r ≤ τ := not_lt.mp hn
    refine absurd hc (not_lt.mpr ?_)
    rw [← hthr]
    unfold excess
    refine Finset.sum_le_sum fun l _ => ?_
    by_cases hl : (τ : EReal) < z l
    · have hlj : l ≤ j := by
        by_contra hg
        have := h.anti (not_le.mp hg).le
        rw [hr] at this
        have h2 := lt_of_lt_of_le hl this
        rw [EReal.coe_lt_coe_iff] at h2
        linarith
      have hc1 : clip (-2) z l = q l := by
        rw [← EReal.coe_eq_coe_iff, hqz l hlj]
        exact clip_eq_of_lt _ z l (h.z_ne_top l) (by linarith : (-2 : ℝ) ≤ τ) hl
      rw [if_pos hlj, hc1]
      exact max_le (by linarith) (by linarith [hqr l hlj])
    · have hc1 : ¬ τ < clip (-2) z l := fun hg => hl ((lt_clip _ z l (h.z_ne_top l) (by linarith)).mpr hg)
      rw [max_eq_right (by linarith : clip (-2) z l - τ ≤ 0)]
      split_ifs with hlj
      · linarith [hqr l hlj]
      · exact le_rfl
  · intro hlt
    have hex : excess (clip (-2) z) r < 1 := by
      by_contra hc
      have := le_of_one_le_excess _ hthr (not_lt.mp hc)
      linarith
    refine lt_of_le_of_lt ?_ hex
    unfold excess
    refine Finset.sum_le_sum fun l _ => ?_
    split_ifs with hlj
    · refine le_trans (le_of_eq ?_) (le_max_left _ _)
      have hc1 : clip (-2) z l = q l := by
        rw [← EReal.coe_eq_coe_iff, hqz l hlj]
        refine clip_eq _ z l (h.z_ne_top l) ?_
        rw [← hqz l hlj, EReal.coe_le_coe_iff]
        linarith [hqr l hlj]
      rw [hc1]
    · exact le_max_right _ _

theorem inside_eq (j : Fin n) : inside z j = if (τ : EReal) < z j then 1 else 0 := by
  unfold inside
  simp only [h.inside_iff]

/-- The textbook threshold is the threshold. -/
theorem rTau_eq : rTau z = (τ : EReal) := by
  have hge := h.ge
  have hthr : excess (clip (-2) z) τ = 1 := by rw [h.excess_z, h.thr]
  have hL : (-2 : ℝ) ≤ τ := by linarith
  have hsize : size z = (cnt (clip (-2) z) τ : EReal) := by
    unfold size
    simp only [h.inside_eq]
    rw [size_lower (fun j => (τ : EReal) < z j) (fun j l hj hl => lt_of_lt_of_le hj (h.anti hl))]
    · unfold cnt
      simp only [lt_clip _ z _ (h.z_ne_top _) hL]
    · obtain ⟨i, hi⟩ := h.zero
      obtain ⟨j, hj⟩ := h.bij.2 i
      refine ⟨j, ?_⟩
      rw [h.perm, hj, hi, ← EReal.coe_zero, EReal.coe_lt_coe_iff]
      exact h.neg
  have hsum : (∑ j, inside z j * z j) = (top (clip (-2) z) τ : EReal) := by
    rw [← eTop_coe _ z h.z_ne_top hL]
    unfold eTop
    refine Finset.sum_congr rfl fun j _ => ?_
    rw [h.inside_eq]
    split_ifs
    · exact one_mul _
    · exact zero_mul _
  unfold rTau
  rw [hsize, hsum, ← EReal.coe_one, ← EReal.coe_sub, div_coe_coe (cnt_pos _ (by rw [hthr]; norm_num)).ne']
  show ((newton (clip (-2) z) τ : ℝ) : EReal) = _
  rw [newton_eq _ hthr le_rfl (by
    unfold between
    rw [Finset.card_eq_zero, Finset.filter_eq_empty_iff]
    exact fun i _ hc => lt_asymm hc.1 hc.2)]

end Row

/-- On a row of minus infinities the textbook threshold is minus infinity. -/
theorem rTau_bot (hn : 0 < n) (z : Fin n → EReal) (hz : ∀ j, z j = ⊥) : rTau z = ⊥ := by
  have hi : ∀ j, inside z j = 0 := fun j => by
    unfold inside
    rw [hz j, place, EReal.coe_mul_bot_of_pos (by positivity), EReal.add_bot, if_neg not_lt_bot]
  have hs : size z = 0 := by
    unfold size
    simp only [hi, zero_mul]
    apply le_antisymm
    · rw [Finset.fold_max_le]; exact ⟨bot_le, fun _ _ => le_rfl⟩
    · rw [Finset.le_fold_max]; exact Or.inr ⟨⟨0, hn⟩, Finset.mem_univ _, le_rfl⟩
  unfold rTau
  simp only [hs, hi, zero_mul, Finset.sum_const_zero]
  rw [Ideal.div, if_pos rfl, if_neg]
  rw [zero_sub, EReal.neg_pos, not_lt]
  exact zero_le_one

end Cert.Sorted

end
-- ==== Proof.Arrays.lean ====
/-
  Three host operations on a table, read at an element: the sort of each row, the running sum along each row, and the
  gather that picks one column per row.
-/
module

public import Idealize.ShloMosaic.Lib.Pointwise
public import Idealize.ShloMosaic.Lib.SortFacts
public import proofs.«01_k».proof.Proof.Sorted

@[expose] public section

set_option maxRecDepth 16384

noncomputable section

namespace Cert.Arrays

open Idealize.ShloMosaic

/-- A table of `R` rows and `C` columns. -/
abbrev Table (R C : ℕ) : Shape := ⟨2, ![R, C]⟩

/-- A list of `R` elements. -/
abbrev Line (R : ℕ) : Shape := ⟨1, ![R]⟩

theorem along_second {R C : ℕ} (r : Fin R) (c k : Fin C) :
    Shape.Idx.along (s := Table R C) (ix2 r c) 1 k = ix2 r k := by
  funext a
  match a with
  | ⟨0, _⟩ => rfl
  | ⟨1, _⟩ => rfl

/-- A sort of each row by an order's strict comparison: the row rearranged, ascending. -/
theorem sort_rows {R C : ℕ} (cmp : EReal → EReal → BitVec 1) (hcmp : ∀ a b, cmp a b = 1#1 ↔ a < b)
    (x : (Table R C).Idx → EReal) (r : Fin R) : ∃ σ : Fin C → Fin C, Function.Bijective σ
      ∧ (∀ j, Host.sort (Table R C) 1 cmp x (ix2 r j) = x (ix2 r (σ j)))
      ∧ ∀ i j, i ≤ j → x (ix2 r (σ i)) ≤ x (ix2 r (σ j)) := by
  set B : Fin C → Fin C → Bool := fun k k' => cmp (x (ix2 r k)) (x (ix2 r k')) == 1#1 with hB
  have hb : ∀ k k', B k k' = true ↔ x (ix2 r k) < x (ix2 r k') := fun k k' => by
    rw [hB]; simp only [beq_iff_eq]; exact hcmp _ _
  have hf : ∀ k k', B k k' = false ↔ x (ix2 r k') ≤ x (ix2 r k) := fun k k' => by
    rw [← Bool.not_eq_true, hb, not_lt]
  refine ⟨sortedFrom B, ⟨sortedFrom_injective B, sortedFrom_surjective B⟩, fun j => ?_, fun i j hij => ?_⟩
  · unfold Host.sort
    rw [dif_pos (show 1 < (Table R C).rank from Nat.one_lt_two)]
    have key : ∀ k, Shape.Idx.along (s := Table R C) (ix2 r j) 1 k = ix2 r k := along_second r j
    have e : (fun k k' : Fin C => cmp (x (Shape.Idx.along (s := Table R C) (ix2 r j) 1 k))
        (x (Shape.Idx.along (s := Table R C) (ix2 r j) 1 k')) == 1#1) = B := funext₂ fun k k' =>
      congrArg (· == 1#1) (congrArg₂ (fun a b => cmp (x a) (x b)) (key k) (key k'))
    exact (congrArg x (key _)).trans (congrArg (fun b => x (ix2 r (sortedFrom b j))) e)
  · rcases eq_or_lt_of_le hij with rfl | h
    · exact le_rfl
    · exact (hf _ _).mp (sortedFrom_noInversion B B (fun a b hab => (hf _ _).mpr ((hb _ _).mp hab).le) (fun _ _ h => h)
        (fun a b c h1 h2 => (hf _ _).mpr (le_trans ((hf _ _).mp h2) ((hf _ _).mp h1))) i j h)

theorem numel_row (N : ℕ) : (Table 1 N).numel = N := by
  show ∏ a : Fin 2, (![1, N] : Fin 2 → ℕ) a = N
  rw [Fin.prod_univ_two]
  exact Nat.one_mul N

theorem row_position {N : ℕ} (n : Fin (Table 1 N).numel) :
    (Table 1 N).rowMajor.symm n = ix2 (0 : Fin 1) (n.cast (numel_row N)) :=
  ((Table 1 N).rowMajor.symm_apply_eq).2 (Fin.ext (by
    rw [Shape.rowMajor_val_two]
    show n.val = 0 * N + n.val
    rw [Nat.zero_mul, Nat.zero_add]))

theorem foldl_add {κ : Type} (l : List κ) (g : κ → EReal) (v : EReal) :
    l.foldl (fun r n => r + g n) v = v + (l.map g).sum := by
  induction l generalizing v with
  | nil => simp
  | cons a l ih => rw [List.foldl_cons, ih, List.map_cons, List.sum_cons, add_assoc]

/-- A window of the whole row, padded low, slides over the entries up to its place. -/
theorem window_sum {M : ℕ} (z : Fin (M + 1) → EReal) (j : Fin (M + 1)) :
    (∑ k : Fin (M + 1), if h : M ≤ j.val + k.val ∧ j.val + k.val - M < M + 1 then z ⟨j.val + k.val - M, h.2⟩ else 0)
      = Sorted.running z j := by
  have hj := j.isLt
  unfold Sorted.running
  rw [← Finset.sum_filter_ne_zero, ← Finset.sum_filter_ne_zero (f := fun l : Fin (M + 1) => if l ≤ j then z l else 0)]
  refine Finset.sum_bij (fun k _ => (⟨j.val + k.val - M, by have := k.isLt; omega⟩ : Fin (M + 1))) ?_ ?_ ?_ ?_
  · intro k hk
    rw [Finset.mem_filter] at hk ⊢
    refine ⟨Finset.mem_univ _, ?_⟩
    have hkl := k.isLt
    have hle : M ≤ j.val + k.val ∧ j.val + k.val - M < M + 1 := by
      by_contra hc; exact hk.2 (dif_neg hc)
    have h2 := hk.2
    rw [dif_pos hle] at h2
    rwa [if_pos (Fin.mk_le_of_le_val (by omega))]
  · intro a ha b hb hab
    rw [Finset.mem_filter] at ha hb
    have h1 : M ≤ j.val + a.val ∧ j.val + a.val - M < M + 1 := by by_contra hc; exact ha.2 (dif_neg hc)
    have h2 : M ≤ j.val + b.val ∧ j.val + b.val - M < M + 1 := by by_contra hc; exact hb.2 (dif_neg hc)
    have := congrArg Fin.val hab
    apply Fin.ext
    simp only at this
    omega
  · intro l hl
    rw [Finset.mem_filter] at hl
    have hlj : l ≤ j := by by_contra hc; exact hl.2 (if_neg hc)
    have hlj' : l.val ≤ j.val := hlj
    have hlt : M - j.val + l.val < M + 1 := by omega
    have e : (⟨j.val + (M - j.val + l.val) - M, by omega⟩ : Fin (M + 1)) = l := Fin.ext (by simp only; omega)
    refine ⟨⟨M - j.val + l.val, hlt⟩, ?_, e⟩
    rw [Finset.mem_filter]
    refine ⟨Finset.mem_univ _, ?_⟩
    have h2 := hl.2
    rw [if_pos hlj] at h2
    rw [dif_pos (show M ≤ j.val + (M - j.val + l.val) ∧ j.val + (M - j.val + l.val) - M < M + 1 by omega)]
    rw [show (⟨j.val + (M - j.val + l.val) - M, _⟩ : Fin (M + 1)) = l from e]
    exact h2
  · intro k hk
    rw [Finset.mem_filter] at hk
    have hkl := k.isLt
    have hle : M ≤ j.val + k.val ∧ j.val + k.val - M < M + 1 := by by_contra hc; exact hk.2 (dif_neg hc)
    rw [dif_pos hle, if_pos (Fin.mk_le_of_le_val (by omega))]

/-- The running sum along each row, as a window of the whole row padded low. -/
theorem running_rows {R M : ℕ} (x : (Table R (M + 1)).Idx → EReal) (init : (⟨0, ![]⟩ : Shape).Idx → EReal) (hinit : ∀ i, init i = 0)
    (h : (Table R (M + 1)).ReduceWindows (![1, M + 1] : Fin 2 → ℕ) ![1, 1] ![0, M] ![0, 0] (Table R (M + 1)))
    (hu : 0 < (⟨0, ![]⟩ : Shape).numel) (r : Fin R) (j : Fin (M + 1)) :
    Host.reduceWindowAdd (F := Ideal) (φ := .f32) ![1, M + 1] ![1, 1] ![0, M] ![0, 0] x init h hu (ix2 r j)
      = Sorted.running (fun l => x (ix2 r l)) j := by
  have hr := r.isLt
  unfold Host.reduceWindowAdd
  rw [Ideal.hostReduceWindowAdd_def, hinit]
  unfold Ideal.hostReduceWindowAdd Host.reduceWindow
  refine (foldl_add _ _ _).trans ?_
  rw [zero_add, ← Fin.sum_univ_def, ← window_sum]
  refine Fintype.sum_equiv (finCongr (numel_row (M + 1))) _ _ fun n => ?_
  have hw0 : ((Table 1 (M + 1)).rowMajor.symm n 0).val = 0 := by rw [row_position]; rfl
  have hw : ((Table 1 (M + 1)).rowMajor.symm n 1).val = n.val := by rw [row_position]; rfl
  dsimp only
  split
  · next hin =>
    have h1 := hin 1
    change M ≤ j.val * 1 + ((Table 1 (M + 1)).rowMajor.symm n 1).val
      ∧ j.val * 1 + ((Table 1 (M + 1)).rowMajor.symm n 1).val - M < M + 1 at h1
    rw [hw, Nat.mul_one] at h1
    refine Eq.trans ?_ (dif_pos h1).symm
    refine congrArg x (funext fun a => Fin.ext ?_)
    match a with
    | ⟨0, _⟩ =>
      show r.val * 1 + ((Table 1 (M + 1)).rowMajor.symm n 0).val - 0 = r.val
      rw [hw0]; omega
    | ⟨1, _⟩ =>
      show j.val * 1 + ((Table 1 (M + 1)).rowMajor.symm n 1).val - M = j.val + n.val - M
      rw [hw, Nat.mul_one]
  · next hin =>
    refine Eq.symm (dif_neg (c := M ≤ j.val + n.val ∧ j.val + n.val - M < M + 1) (e := fun _ => (0 : EReal)) fun hc => hin fun a => ?_)
    match a with
    | ⟨0, _⟩ =>
      show 0 ≤ r.val * 1 + ((Table 1 (M + 1)).rowMajor.symm n 0).val ∧ r.val * 1 + ((Table 1 (M + 1)).rowMajor.symm n 0).val - 0 < R
      rw [hw0]; omega
    | ⟨1, _⟩ =>
      show M ≤ j.val * 1 + ((Table 1 (M + 1)).rowMajor.symm n 1).val
        ∧ j.val * 1 + ((Table 1 (M + 1)).rowMajor.symm n 1).val - M < M + 1
      rw [hw, Nat.mul_one]; exact hc

/-- The dimension numbers of a gather of one element per row of a table of start indices. -/
abbrev pickDims (R C B : ℕ) (wf : GatherDims.WF (Table R C) (Table B 2) (Line B) [] [0, 1] [] [0, 1] [] 1 ![1, 1]) :
    GatherDims (Table R C) (Table B 2) (Line B) where
  offsetDims := []
  collapsedSliceDims := [0, 1]
  operandBatchingDims := []
  startIndicesBatchingDims := []
  startIndexMap := [0, 1]
  indexVectorDim := 1
  sliceSizes := ![1, 1]
  wf := wf

/-- That gather reads the element at the two start indices, each clamped into the table. -/
theorem pick {R C B : ℕ} (hR : 0 < R) (hC : 0 < C)
    (wf : GatherDims.WF (Table R C) (Table B 2) (Line B) [] [0, 1] [] [0, 1] [] 1 ![1, 1])
    (x : (Table R C).Idx → EReal) (idx : IVec (Table B 2) 32) (b : Fin B) :
    Host.gather (pickDims R C B wf) x idx (ix1 b)
      = x (ix2 ⟨min (idx (ix2 b 0)).toInt.toNat (R - 1), by omega⟩ ⟨min (idx (ix2 b 1)).toInt.toNat (C - 1), by omega⟩) := by
  unfold Host.gather
  congr 1
  funext a
  refine Fin.ext ?_
  show (pickDims R C B wf).start (ix1 b) idx a + (pickDims R C B wf).batchCoord (ix1 b) a
      + (pickDims R C B wf).offCoord (ix1 b) a = _
  have hmem : a ∈ ([0, 1] : List (Fin 2)) := by
    match a with
    | ⟨0, _⟩ => exact List.mem_cons_self
    | ⟨1, _⟩ => exact List.mem_cons_of_mem _ List.mem_cons_self
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos (show a ∈ (pickDims R C B wf).startIndexMap from hmem)]
  match a with
  | ⟨0, _⟩ =>
    have hsi : (pickDims R C B wf).siIdx (ix1 b) ⟨List.idxOf (0 : Fin 2) (pickDims R C B wf).startIndexMap,
        List.idxOf_lt_length_iff.2 List.mem_cons_self⟩ = ix2 b 0 := by
      funext b'; refine Fin.ext ?_
      match b' with
      | ⟨0, _⟩ => rfl
      | ⟨1, _⟩ => rfl
    show min (idx ((pickDims R C B wf).siIdx (ix1 b) ⟨List.idxOf (0 : Fin 2) (pickDims R C B wf).startIndexMap, _⟩)).toInt.toNat (R - 1) = _
    rw [hsi]
    rfl
  | ⟨1, _⟩ =>
    have hsi : (pickDims R C B wf).siIdx (ix1 b) ⟨List.idxOf (1 : Fin 2) (pickDims R C B wf).startIndexMap,
        List.idxOf_lt_length_iff.2 (List.mem_cons_of_mem _ List.mem_cons_self)⟩ = ix2 b 1 := by
      funext b'; refine Fin.ext ?_
      match b' with
      | ⟨0, _⟩ => rfl
      | ⟨1, _⟩ => rfl
    show min (idx ((pickDims R C B wf).siIdx (ix1 b) ⟨List.idxOf (1 : Fin 2) (pickDims R C B wf).startIndexMap, _⟩)).toInt.toNat (C - 1) = _
    rw [hsi]
    rfl

end Cert.Arrays

end
-- ==== Proof.RefRead.lean ====
/-
  The reference's arrays read at an element: the shifted row, the sorted row, its threshold, and the loss of a row.
-/
module

public import proofs.«01_k».proof.Proof.Gen.ReferenceIdeal.Read
public import Idealize.ShloMosaic.Lib.Pointwise
public import proofs.«01_k».proof.Proof.Arrays

@[expose] public section

set_option maxRecDepth 16384

noncomputable section

namespace Cert.RefRead

open Cert.ReferenceIdeal Cert.ReferenceIdeal.Gen Cert.ReferenceIdeal.Read Idealize.ShloMosaic Idealize.ShloMosaic.TcCoe
  Idealize.SL.Sem

/-- The greatest entry of a row. -/
def rowMax {n : ℕ} (x : Fin n → EReal) : EReal := Finset.univ.fold max ⊥ x

/-- The row less its greatest entry. -/
def shifted {n : ℕ} (x : Fin n → EReal) (i : Fin n) : EReal := x i - rowMax x

theorem const_bot : Ideal.ofBits FTy.f32 4286578688#32 = ⊥ := by
  simp [Ideal.ofBits, Ideal.ieee, -EReal.coe_mul]

theorem const_half : Ideal.ofBits FTy.f32 1056964608#32 = ((1 / 2 : ℝ) : EReal) := by
  simp [Ideal.ofBits, Ideal.ieee, -EReal.coe_mul]; norm_num

theorem const_two : Ideal.ofBits FTy.f32 1073741824#32 = ((2 : ℝ) : EReal) := by
  simp [Ideal.ofBits, Ideal.ieee, -EReal.coe_mul]; norm_num

theorem const_sixtyfourth : Ideal.ofBits FTy.f32 1015021568#32 = ((1 / 64 : ℝ) : EReal) := by
  simp [Ideal.ofBits, Ideal.ieee, -EReal.coe_mul]; norm_num

theorem const_rows : Ideal.ofBits FTy.f32 1149239296#32 = ((1024 : ℝ) : EReal) := by
  simp [Ideal.ofBits, Ideal.ieee, -EReal.coe_mul]; norm_num

theorem const_per_row : Ideal.ofBits FTy.f32 981467136#32 = ((1 / 1024 : ℝ) : EReal) := by
  simp [Ideal.ofBits, Ideal.ieee, -EReal.coe_mul]; norm_num

/-- A truth value converted to a number. -/
theorem bit_number (p : Prop) [Decidable p] :
    FloatOps.uitofp (F := Ideal) FTy.f32 (BitVec.ofBool (decide p)) = if p then (1 : EReal) else 0 := by
  show (((BitVec.ofBool (decide p)).toNat : ℝ) : EReal) = _
  by_cases h : p <;> simp [h]

/-- The same by way of a word. -/
theorem word_number (p : Prop) [Decidable p] :
    FloatOps.sitofp (F := Ideal) FTy.f32 (BitVec.setWidth 32 (BitVec.ofBool (decide p))) = if p then (1 : EReal) else 0 := by
  show (((BitVec.setWidth 32 (BitVec.ofBool (decide p))).toInt : ℝ) : EReal) = _
  by_cases h : p <;> simp [h]

theorem place_number (j : Fin 100000) :
    1 + FloatOps.sitofp (F := Ideal) FTy.f32 (BitVec.ofNat 32 j.val) = Sorted.place j := by
  have h := j.isLt
  have e : (BitVec.ofNat 32 j.val).toInt = (j.val : ℤ) := by
    rw [BitVec.toInt_eq_toNat_of_lt (by rw [BitVec.toNat_ofNat]; omega), BitVec.toNat_ofNat]; omega
  show 1 + (((BitVec.ofNat 32 j.val).toInt : ℝ) : EReal) = _
  rw [e, ← EReal.coe_one, ← EReal.coe_add]
  simp [Sorted.place]

theorem compares (a b : EReal) : comparator_f32_d1 (F := Ideal) a b = 1#1 ↔ a < b := by
  unfold comparator_f32_d1
  have z : FloatOps.ofBits (F := Ideal) FTy.f32 0x00000000#32 = (0 : EReal) := Ideal.ofBits_zero_f32
  have key : ∀ c : EReal, Scalar.select (FloatOps.cmpf (F := Ideal) (φ := .f32) CmpFPredicate.une c c)
      (FloatOps.ofBits (F := Ideal) FTy.f32 0x7FC00000#32)
      (Scalar.select (FloatOps.cmpf (F := Ideal) (φ := .f32) CmpFPredicate.oeq c (FloatOps.ofBits FTy.f32 0x00000000#32))
        (FloatOps.ofBits FTy.f32 0x00000000#32) c) = c := by
    intro c
    rw [z]
    have h1 : FloatOps.cmpf (F := Ideal) (φ := .f32) CmpFPredicate.une c c = 0#1 := by
      show BitVec.ofBool (decide (c ≠ c)) = 0#1
      simp
    rw [h1]
    show Scalar.select (BitVec.ofBool (decide (c = 0))) 0 c = c
    by_cases h : c = 0
    · simp [h, Scalar.select]
    · simp [h, Scalar.select]
  dsimp only
  rw [key a, key b]
  show BitVec.ofBool (decide (a < b)) = 1#1 ↔ a < b
  by_cases h : a < b <;> simp [h]

variable (x : FVec Ideal S1024x100000 .f32) (t : IVec S1024 32)

/-- Row `r` of a table. -/
abbrev row (x : FVec Ideal S1024x100000 .f32) (r : Fin 1024) (c : Fin 100000) : EReal := x (ix2 r c)

theorem max_row (r : Fin 1024) : val_main_v15 (F := Ideal) x (ix1 r) = rowMax (row x r) := by
  pointwise [val_main_v15, val_main_cst]
  rw [const_bot]
  rfl

theorem shifted_row (r : Fin 1024) (c : Fin 100000) : val_main_v18 (F := Ideal) x (ix2 r c) = shifted (row x r) c := by
  pointwise [val_main_v18, val_main_v17, val_main_v16]
  rw [max_row]
  rfl

theorem sorted_row (r : Fin 1024) : ∃ σ : Fin 100000 → Fin 100000, Function.Bijective σ
    ∧ (∀ j, row (val_main_v21 (F := Ideal) x) r j = shifted (row x r) (σ j)) ∧ Antitone (row (val_main_v21 (F := Ideal) x) r) := by
  obtain ⟨σ, hσ, h1, h2⟩ := Arrays.sort_rows (comparator_f32_d1 (F := Ideal)) compares (val_main_v19 (F := Ideal) x) r
  have e : ∀ c, val_main_v19 (F := Ideal) x (ix2 r c) = -shifted (row x r) c := fun c => by
    rw [val_main_v19_apply, shifted_row]; rfl
  have e2 : ∀ j, row (val_main_v21 (F := Ideal) x) r j = shifted (row x r) (σ j) := fun j => by
    show val_main_v21 (F := Ideal) x (ix2 r j) = _
    rw [val_main_v21_apply]
    unfold val_main_v20
    rw [h1, e]
    exact neg_neg _
  refine ⟨σ, hσ, e2, fun i j hij => ?_⟩
  have := h2 i j hij
  rw [e, e, EReal.neg_le_neg_iff] at this
  rw [e2, e2]
  exact this

theorem running_row (r : Fin 1024) (j : Fin 100000) :
    val_main_v30 (F := Ideal) x (ix2 r j) = Sorted.running (row (val_main_v21 (F := Ideal) x) r) j := by
  unfold val_main_v30
  generalize val_main_v21 (F := Ideal) x = y
  exact Arrays.running_rows (M := 99999) y _ (fun i => by
    rw [val_main_call1_call0_v0_apply, val_main_call1_call0_cst_apply]; exact Ideal.ofBits_zero_f32) _ _ r j

theorem inside_row (r : Fin 1024) (j : Fin 100000) :
    val_main_v32 (F := Ideal) x (ix2 r j) = Sorted.inside (row (val_main_v21 (F := Ideal) x) r) j := by
  pointwise [val_main_v32, val_main_v31, val_main_v29, val_main_v28, val_main_v27, val_main_v26, val_main_v25, val_main_v24,
    val_main_v23, val_main_v22, val_main_cst_3, val_main_cst_4]
  rw [bit_number, running_row, place_number]
  rfl

theorem size_row (r : Fin 1024) :
    val_main_v35 (F := Ideal) x (ix1 r) = Sorted.size (row (val_main_v21 (F := Ideal) x) r) := by
  pointwise [val_main_v35, val_main_v34, val_main_v33, val_main_v25, val_main_v24, val_main_v23, val_main_v22, val_main_cst_3,
    val_main_cst_5]
  rw [const_bot]
  unfold Sorted.size
  refine congrArg (fun f => Finset.univ.fold max ⊥ f) (funext fun j => ?_)
  rw [place_number, inside_row]

theorem support_row (r : Fin 1024) : val_main_v38 (F := Ideal) x (ix1 r)
    = ∑ j, Sorted.inside (row (val_main_v21 (F := Ideal) x) r) j * row (val_main_v21 (F := Ideal) x) r j := by
  rw [val_main_v38_apply, val_main_cst_6_apply]
  refine (congrArg (· + _) Ideal.ofBits_zero_f32).trans ((zero_add _).trans (Finset.sum_congr rfl fun j _ => ?_))
  rw [show idx_main_v38 (ix1 r) j = ix2 r j from eq_ix2 _, val_main_v37_apply, inside_row]
  rfl

/-- The reference's threshold of row `r`, from the sorted row. -/
theorem threshold_row (r : Fin 1024) :
    val_main_v42 (F := Ideal) x (ix2 r 0) = Sorted.rTau (row (val_main_v21 (F := Ideal) x) r) := by
  rw [val_main_v42_apply, val_main_v41_apply, val_main_v40_apply, val_main_v39_apply, val_main_cst_7_apply, val_main_v36_apply,
    show idx_main_v39 (ix2 r 0) = ix1 r from eq_ix1 _, show idx_main_v36 (ix2 r 0) = ix1 r from eq_ix1 _, size_row, support_row,
    Ideal.hostDivf_def, Ideal.subf_def]
  unfold Sorted.rTau
  generalize (∑ j, Sorted.inside (row (val_main_v21 (F := Ideal) x) r) j * row (val_main_v21 (F := Ideal) x) r j) = a
  generalize Sorted.size (row (val_main_v21 (F := Ideal) x) r) = b
  exact congrArg (fun o : EReal => Ideal.div (a - o) b) Ideal.ofBits_one_f32

/-- The loss of a row from its shifted entries, its threshold and its entry at the label. -/
def rLoss {n : ℕ} (s : Fin n → EReal) (τ zk : EReal) : EReal :=
  ((1 / 2 : ℝ) : EReal) * (∑ i, max 0 (s i * s i - τ * τ) + 1) - zk

theorem squares_row (r : Fin 1024) : val_main_v49 (F := Ideal) x (ix1 r)
    = ∑ c, max 0 (shifted (row x r) c * shifted (row x r) c
      - val_main_v42 (F := Ideal) x (ix2 r 0) * val_main_v42 (F := Ideal) x (ix2 r 0)) := by
  rw [val_main_v49_apply, val_main_cst_9_apply]
  refine (congrArg (· + _) Ideal.ofBits_zero_f32).trans ((zero_add _).trans (Finset.sum_congr rfl fun c _ => ?_))
  rw [show idx_main_v49 (ix1 r) c = ix2 r c from eq_ix2 _, val_main_v48_apply, val_main_v47_apply, val_main_v46_apply,
    val_main_v45_apply, val_main_v44_apply, val_main_v43_apply, val_main_cst_8_apply,
    show idx_main_v46 (ix2 r c) = ix2 r 0 from eq_ix2 _, shifted_row]
  generalize val_main_v42 (F := Ideal) x (ix2 r 0) = a
  generalize shifted (row x r) c = b
  exact congrArg (fun o : EReal => max o (b * b - a * a)) Ideal.ofBits_zero_f32

theorem loss_row (r : Fin 1024) : val_main_v54 (F := Ideal) x t (ix1 r)
    = rLoss (shifted (row x r)) (val_main_v42 (F := Ideal) x (ix2 r 0)) (val_main_v14 (F := Ideal) x t (ix1 r)) := by
  pointwise [val_main_v54, val_main_v53, val_main_v52, val_main_v51, val_main_v50, val_main_cst_10, val_main_cst_11]
  rw [squares_row, const_half]
  rfl

/-- The wrapped start indices of an in-range label. -/
theorem label_row (r : Fin 1024) (h0 : 0 ≤ (t (ix1 r)).toInt) : val_main_v13 (F := Ideal) t (ix2 r 1) = t (ix1 r) := by
  pointwise [val_main_v13, val_main_v12, val_main_v11, val_main_v10, val_main_v9, val_main_v8, val_main_v7, val_main_v6,
    val_main_c_2, val_main_c_1]
  have h : IntOp.cmpi CmpIPredicate.slt (t (ix1 r)) 0#32 = 0#1 := by
    show BitVec.ofBool ((t (ix1 r)).slt 0#32) = 0#1
    have : (t (ix1 r)).slt 0#32 = false := by
      rw [BitVec.slt_eq_decide, decide_eq_false_iff_not]; simpa using h0
    rw [this]; rfl
  rw [h]
  simp [Scalar.select]

theorem number_row (r : Fin 1024) : val_main_v13 (F := Ideal) t (ix2 r 0) = BitVec.ofNat 32 r.val := by
  have hr := r.isLt
  pointwise [val_main_v13, val_main_v12, val_main_v11, val_main_v5, val_main_v4, val_main_v3, val_main_v2, val_main_v1,
    val_main_v0, val_main_c_0, val_main_c]
  have h : IntOp.cmpi CmpIPredicate.slt (BitVec.ofNat 32 r.val) 0#32 = 0#1 := by
    show BitVec.ofBool ((BitVec.ofNat 32 r.val).slt 0#32) = 0#1
    have : (BitVec.ofNat 32 r.val).slt 0#32 = false := by
      rw [BitVec.slt_eq_decide, decide_eq_false_iff_not,
        BitVec.toInt_eq_toNat_of_lt (by rw [BitVec.toNat_ofNat]; omega), BitVec.toInt_zero, not_lt]
      exact Int.natCast_nonneg _
    rw [this]; rfl
  rw [h]
  simp [Scalar.select]

/-- The gathered entry of an in-range label. -/
theorem entry_row (r : Fin 1024) (h0 : 0 ≤ (t (ix1 r)).toInt) (h1 : (t (ix1 r)).toInt < 100000) :
    val_main_v14 (F := Ideal) x t (ix1 r) = x (ix2 r ⟨(t (ix1 r)).toInt.toNat, by omega⟩) := by
  have hr := r.isLt
  unfold val_main_v14
  refine (Arrays.pick (R := 1024) (C := 100000) (B := 1024) (by norm_num) (by norm_num) _ x _ r).trans (congrArg x ?_)
  have e : (BitVec.ofNat 32 r.val).toInt = (r.val : ℤ) := by
    rw [BitVec.toInt_eq_toNat_of_lt (by rw [BitVec.toNat_ofNat]; omega), BitVec.toNat_ofNat]; omega
  refine congrArg₂ ix2 (Fin.ext ?_) (Fin.ext ?_)
  · simp only [number_row, e]; omega
  · simp only [label_row t r h0]; omega

/-- The reference's result: the mean of the rows' losses. -/
theorem mean_rows : val_main_v57 (F := Ideal) x t (ix2 0 0)
    = (∑ r : Fin 1024, val_main_v54 (F := Ideal) x t (ix1 r)) * ((1 / 1024 : ℝ) : EReal) := by
  pointwise [val_main_v57, val_main_v56, val_main_v55, val_main_cst_13, val_main_cst_12]
  rw [const_rows, Ideal.div_coe (by norm_num)]

end Cert.RefRead

end
-- ==== Proof.Lanes.lean ====
/-
  What the kernel's vector operations give at one row, over arbitrary vectors: a midpoint, the test of a halving,
  a selection, a step.
-/
module

public import proofs.«01_k».proof.Proof.Gen.KernelIdeal.Skeleton
public import Idealize.ShloMosaic.Lib.Pointwise
public import proofs.«01_k».proof.Proof.RefRead

@[expose] public section

set_option maxRecDepth 16384

noncomputable section

namespace Cert.Lanes

open Cert.KernelIdeal Cert.KernelIdeal.Gen Idealize.ShloMosaic Idealize.ShloMosaic.TcCoe Idealize.SL.Sem
open Cert.Row
open Cert.RefRead (rowMax const_half const_bot const_per_row word_number)

variable (v : FVec Ideal S32x100000 .f32) (a b t : FVec Ideal S32x1 .f32) (r : Fin 32)

/-- Row `r` of a block. -/
abbrev line (v : FVec Ideal S32x100000 .f32) (r : Fin 32) (c : Fin 100000) : EReal := v (ix2 r c)

theorem pick_of (p : Prop) [Decidable p] (a b : EReal) :
    Scalar.select (BitVec.ofBool (decide p)) a b = if p then a else b := by
  by_cases h : p <;> simp [h, Scalar.select]

theorem less_one : subf a (broadcast S32x1 (Scalar.ofBits .f32 0x3F800000#32)) (ix2 r 0) = a (ix2 r 0) - 1 := by
  pointwise []

theorem sums : addf a b (ix2 r 0) = a (ix2 r 0) + b (ix2 r 0) := by
  pointwise []

theorem scaled (q : Ideal .f32) : mulf (broadcast S32x1 q) a (ix2 r 0) = q * a (ix2 r 0) := by
  pointwise []

theorem middle : mulf (broadcast S32x1 (Scalar.ofBits .f32 0x3F000000#32)) (addf a b) (ix2 r 0)
    = eMid (a (ix2 r 0)) (b (ix2 r 0)) := by
  pointwise []
  rw [const_half]
  rfl

theorem picks (k : IVec S32x1 1) (p : Prop) [Decidable p] (h : k (ix2 r 0) = BitVec.ofBool (decide p)) :
    select k a b (ix2 r 0) = if p then a (ix2 r 0) else b (ix2 r 0) := by
  pointwise []
  rw [h, pick_of]

theorem total : multiReduction .add [1] S32 (maximumf (subf v (broadcastTo S32x100000 t broadcasts_S32x1_S32x100000))
      (broadcast S32x100000 (Scalar.ofBits .f32 0x00000000#32))) 0x00000000#32 reduces_S32x100000_S32 (.inl rfl) rfl (ix1 r)
    = eExcess (line v r) (t (ix2 r 0)) := by
  pointwise []
  rfl

theorem exceeds (e : FVec Ideal S32 .f32) : cmpf .ogt (shapeCast S32x1 e shapeCasts_S32_S32x1)
      (broadcast S32x1 (Scalar.ofBits .f32 0x3F800000#32)) (ix2 r 0) = BitVec.ofBool (decide (1 < e (ix1 r))) := by
  pointwise []

/-- The test of a halving at the points `t`. -/
theorem tests : cmpf .ogt (shapeCast S32x1 (multiReduction .add [1] S32 (maximumf
      (subf v (broadcastTo S32x100000 t broadcasts_S32x1_S32x100000))
      (broadcast S32x100000 (Scalar.ofBits .f32 0x00000000#32))) 0x00000000#32 reduces_S32x100000_S32 (.inl rfl) rfl)
      shapeCasts_S32_S32x1) (broadcast S32x1 (Scalar.ofBits .f32 0x3F800000#32)) (ix2 r 0)
    = BitVec.ofBool (decide (1 < eExcess (line v r) (t (ix2 r 0)))) := by
  rw [exceeds, total]

/-- The kernel's step as a vector operation. -/
abbrev stepped (v w : FVec Ideal S32x100000 .f32) (t : FVec Ideal S32x1 .f32) : FVec Ideal S32x1 .f32 :=
  maximumf t (divf
    (subf (shapeCast S32x1 (multiReduction .add [1] S32
      (select (cmpf .ogt v w) v (broadcast S32x100000 (Scalar.ofBits .f32 0x00000000#32))) 0x00000000#32
        reduces_S32x100000_S32 (.inl rfl) rfl) shapeCasts_S32_S32x1) (broadcast S32x1 (Scalar.ofBits .f32 0x3F800000#32)))
    (shapeCast S32x1 (multiReduction .add [1] S32
      (sitofp .f32 (extui 32 (cmpf .ogt v w) natLt_1_32)) 0x00000000#32
        reduces_S32x100000_S32 (.inl rfl) rfl) shapeCasts_S32_S32x1))

theorem steps (w : FVec Ideal S32x100000 .f32) (hw : ∀ c, w (ix2 r c) = t (ix2 r 0)) :
    stepped v w t (ix2 r 0) = eStep (line v r) (t (ix2 r 0)) := by
  pointwise [stepped]
  simp only [word_number, hw]
  rfl

theorem spread (c : Fin 100000) : broadcastTo S32x100000 t broadcasts_S32x1_S32x100000 (ix2 r c) = t (ix2 r 0) := by
  pointwise []

theorem greatest : shapeCast S32x1 (multiReduction .maximumf [1] S32 v 0xFF800000#32 reduces_S32x100000_S32 (.inl rfl) rfl)
    shapeCasts_S32_S32x1 (ix2 r 0) = rowMax (line v r) := by
  pointwise []
  rw [const_bot]
  rfl

/-- The losses of a block's rows added to what was accumulated, for greatest entries `a`, thresholds `t` and label
    entries `k`. -/
theorem losses (k : FVec Ideal S32 .f32) (acc : FVec Ideal S1x1 .f32) :
    addf (shapeCast S1x1 acc shapeCasts_S1x1_S1x1) (broadcast S1x1 (extractAt ![0, 0] (shapeCast S1x1 (multiReduction .add [1] S1
      (shapeCast S1x32 (subf (mulf (broadcast S32 (Scalar.ofBits .f32 0x3F000000#32)) (addf (multiReduction .add [1] S32
        (maximumf (subf (mulf (subf v (broadcastTo S32x100000 a broadcasts_S32x1_S32x100000))
            (subf v (broadcastTo S32x100000 a broadcasts_S32x1_S32x100000)))
          (broadcastTo S32x100000 (mulf (subf t a) (subf t a)) broadcasts_S32x1_S32x100000))
          (broadcast S32x100000 (Scalar.ofBits .f32 0x00000000#32))) 0x00000000#32 reduces_S32x100000_S32 (.inl rfl) rfl)
        (broadcast S32 (Scalar.ofBits .f32 0x3F800000#32)))) k) shapeCasts_S32_S1x32) 0x00000000#32 reduces_S1x32_S1 (.inl rfl) rfl)
      shapeCasts_S1_S1x1) inpos_S1x1_p0_0)) (ix2 0 0)
    = acc (ix2 0 0) + ∑ r : Fin 32, loss (line v r) (a (ix2 r 0)) (t (ix2 r 0)) (k (ix1 r)) := by
  pointwise []
  simp only [const_half]
  rfl

theorem scale (acc : FVec Ideal S1x1 .f32) : k0_pay1 (F := Ideal) acc (ix2 0 0) = acc (ix2 0 0) * ((1 / 1024 : ℝ) : EReal) := by
  pointwise [k0_pay1]
  rw [const_per_row]

theorem start : (k0_pay29 (F := Ideal)) (ix2 0 0) = 0 := by
  pointwise [k0_pay29]

end Cert.Lanes

end
-- ==== Proof.Payload.lean ====
/-
  The kernel's block values read at a row: every halving and every step acts on a row by itself, so the block's
  threshold at row `r` is `Row.kTau` of that row, and the block adds the sum of its rows' losses.
-/
module

public import proofs.«01_k».proof.Proof.Lanes

@[expose] public section

set_option maxRecDepth 16384

noncomputable section

namespace Cert.Payload

open Cert.KernelIdeal Cert.KernelIdeal.Gen Idealize.ShloMosaic Idealize.ShloMosaic.TcCoe Idealize.SL.Sem
open Cert.Row Cert.Lanes
open Cert.RefRead (rowMax const_half)

variable (v : FVec Ideal S32x100000 .f32) (r : Fin 32)

theorem max_line : k0_pay2 (F := Ideal) v (ix2 r 0) = rowMax (line v r) := by
  unfold k0_pay2
  exact greatest v r

theorem lower_zero : k0_pay4 (F := Ideal) v (ix2 r 0) = k0_pay2 (F := Ideal) v (ix2 r 0) - 1 := by
  unfold k0_pay4
  exact less_one _ r

theorem middle_one : k0_pay5 (F := Ideal) v (ix2 r 0) = eMid (k0_pay4 (F := Ideal) v (ix2 r 0)) (k0_pay2 (F := Ideal) v (ix2 r 0)) := by
  unfold k0_pay5
  exact middle _ _ r

theorem test_one : k0_pay6 (F := Ideal) v (ix2 r 0)
    = BitVec.ofBool (decide (1 < eExcess (line v r) (k0_pay5 (F := Ideal) v (ix2 r 0)))) := by
  unfold k0_pay6
  exact tests v _ r

theorem lower_one : k0_pay7 (F := Ideal) v (ix2 r 0)
    = eLow (line v r) (k0_pay4 (F := Ideal) v (ix2 r 0)) (k0_pay2 (F := Ideal) v (ix2 r 0)) := by
  unfold k0_pay7 eLow
  rw [← middle_one]
  exact picks _ _ r _ _ (test_one v r)

theorem upper_one : k0_pay8 (F := Ideal) v (ix2 r 0)
    = eHigh (line v r) (k0_pay4 (F := Ideal) v (ix2 r 0)) (k0_pay2 (F := Ideal) v (ix2 r 0)) := by
  unfold k0_pay8 eHigh
  rw [← middle_one]
  exact picks _ _ r _ _ (test_one v r)

theorem middle_two : k0_pay9 (F := Ideal) v (ix2 r 0) = eMid (k0_pay7 (F := Ideal) v (ix2 r 0)) (k0_pay8 (F := Ideal) v (ix2 r 0)) := by
  unfold k0_pay9
  exact middle _ _ r

theorem test_two : k0_pay10 (F := Ideal) v (ix2 r 0)
    = BitVec.ofBool (decide (1 < eExcess (line v r) (k0_pay9 (F := Ideal) v (ix2 r 0)))) := by
  unfold k0_pay10
  exact tests v _ r

theorem lower_two : k0_pay11 (F := Ideal) v (ix2 r 0)
    = eLow (line v r) (k0_pay7 (F := Ideal) v (ix2 r 0)) (k0_pay8 (F := Ideal) v (ix2 r 0)) := by
  unfold k0_pay11 eLow
  rw [← middle_two]
  exact picks _ _ r _ _ (test_two v r)

theorem upper_two : k0_pay12 (F := Ideal) v (ix2 r 0)
    = eHigh (line v r) (k0_pay7 (F := Ideal) v (ix2 r 0)) (k0_pay8 (F := Ideal) v (ix2 r 0)) := by
  unfold k0_pay12 eHigh
  rw [← middle_two]
  exact picks _ _ r _ _ (test_two v r)

theorem sum_two : k0_pay13 (F := Ideal) v (ix2 r 0) = k0_pay11 (F := Ideal) v (ix2 r 0) + k0_pay12 (F := Ideal) v (ix2 r 0) := by
  unfold k0_pay13
  exact sums _ _ r

section Later

variable (a b s : FVec Ideal S32x1 .f32) (q : Ideal .f32)

theorem middle_three (hq : q = ((1 / 2 : ℝ) : EReal)) (h : s (ix2 r 0) = a (ix2 r 0) + b (ix2 r 0)) :
    k0_pay14 s q (ix2 r 0) = eMid (a (ix2 r 0)) (b (ix2 r 0)) := by
  unfold k0_pay14 eMid
  rw [← h, ← hq]
  exact scaled s r q

theorem test_three : k0_pay15 v s q (ix2 r 0)
    = BitVec.ofBool (decide (1 < eExcess (line v r) (k0_pay14 s q (ix2 r 0)))) := by
  unfold k0_pay15
  exact tests v _ r

theorem lower_three (hq : q = ((1 / 2 : ℝ) : EReal)) (h : s (ix2 r 0) = a (ix2 r 0) + b (ix2 r 0)) :
    k0_pay16 v a s q (ix2 r 0) = eLow (line v r) (a (ix2 r 0)) (b (ix2 r 0)) := by
  unfold k0_pay16 eLow
  rw [← middle_three r a b s q hq h]
  exact picks _ _ r _ _ (test_three v r s q)

theorem upper_three (hq : q = ((1 / 2 : ℝ) : EReal)) (h : s (ix2 r 0) = a (ix2 r 0) + b (ix2 r 0)) :
    k0_pay17 v b s q (ix2 r 0) = eHigh (line v r) (a (ix2 r 0)) (b (ix2 r 0)) := by
  unfold k0_pay17 eHigh
  rw [← middle_three r a b s q hq h]
  exact picks _ _ r _ _ (test_three v r s q)

theorem middle_four : k0_pay18 v a b s q (ix2 r 0) = eMid (k0_pay16 v a s q (ix2 r 0)) (k0_pay17 v b s q (ix2 r 0)) := by
  unfold k0_pay18
  exact middle _ _ r

theorem test_four : k0_pay19 v a b s q (ix2 r 0)
    = BitVec.ofBool (decide (1 < eExcess (line v r) (k0_pay18 v a b s q (ix2 r 0)))) := by
  unfold k0_pay19
  exact tests v _ r

theorem lower_four : k0_pay20 v a b s q (ix2 r 0)
    = eLow (line v r) (k0_pay16 v a s q (ix2 r 0)) (k0_pay17 v b s q (ix2 r 0)) := by
  unfold k0_pay20 eLow
  rw [← middle_four]
  exact picks _ _ r _ _ (test_four v r a b s q)

theorem upper_four : k0_pay21 v a b s q (ix2 r 0)
    = eHigh (line v r) (k0_pay16 v a s q (ix2 r 0)) (k0_pay17 v b s q (ix2 r 0)) := by
  unfold k0_pay21 eHigh
  rw [← middle_four]
  exact picks _ _ r _ _ (test_four v r a b s q)

theorem middle_five : k0_pay22 v a b s q (ix2 r 0) = eMid (k0_pay20 v a b s q (ix2 r 0)) (k0_pay21 v a b s q (ix2 r 0)) := by
  unfold k0_pay22
  exact middle _ _ r

theorem test_five : k0_pay23 v a b s q (ix2 r 0)
    = BitVec.ofBool (decide (1 < eExcess (line v r) (k0_pay22 v a b s q (ix2 r 0)))) := by
  unfold k0_pay23
  exact tests v _ r

theorem lower_five : k0_pay24 v a b s q (ix2 r 0)
    = eLow (line v r) (k0_pay20 v a b s q (ix2 r 0)) (k0_pay21 v a b s q (ix2 r 0)) := by
  unfold k0_pay24 eLow
  rw [← middle_five]
  exact picks _ _ r _ _ (test_five v r a b s q)

theorem middle_six : k0_pay25 v a b s q (ix2 r 0) = eMid (k0_pay24 v a b s q (ix2 r 0))
    (eHigh (line v r) (k0_pay20 v a b s q (ix2 r 0)) (k0_pay21 v a b s q (ix2 r 0))) := by
  unfold k0_pay25 eHigh
  rw [← middle_five, ← picks _ _ r _ _ (test_five v r a b s q)]
  exact middle _ _ r

theorem excess_six : k0_pay26 v a b s q (ix1 r) = eExcess (line v r) (k0_pay25 v a b s q (ix2 r 0)) := by
  unfold k0_pay26
  exact total v _ r

/-- The last halving and three steps. -/
theorem three_steps (e : FVec Ideal S32 .f32) : k0_pay27 v a b e (ix2 r 0) = eStep (line v r) (eStep (line v r)
    (eStep (line v r) (if 1 < e (ix1 r) then b (ix2 r 0) else a (ix2 r 0)))) := by
  rw [← picks b a r _ _ (exceeds r e), ← steps v _ r _ (spread _ r), ← steps v _ r _ (spread _ r),
    ← steps v _ r _ (spread _ r)]
  unfold k0_pay27
  rfl

theorem spread_line (e : FVec Ideal S32 .f32) (c : Fin 100000) : k0_pay28 v a b e (ix2 r c) = k0_pay27 v a b e (ix2 r 0) := by
  unfold k0_pay28
  exact spread _ r c

/-- The last step, the rows' losses, and what was accumulated before. -/
theorem add_losses (m : FVec Ideal S32x1 .f32) (k : FVec Ideal S32 .f32) (u : FVec Ideal S32x1 .f32)
    (w : FVec Ideal S32x100000 .f32) (acc : FVec Ideal S1x1 .f32) (hw : ∀ r c, w (ix2 r c) = u (ix2 r 0)) :
    k0_pay30 v m k u w acc (ix2 0 0) = acc (ix2 0 0) + ∑ r : Fin 32,
      loss (line v r) (m (ix2 r 0)) (eStep (line v r) (u (ix2 r 0))) (k (ix1 r)) := by
  simp only [← steps v u _ w (hw _)]
  exact losses v m (stepped v w u) k acc

end Later

theorem next_low {n : ℕ} (x : Fin n → EReal) (m : EReal) (k : ℕ) :
    eLow x (bracket x m k).1 (bracket x m k).2 = (bracket x m (k + 1)).1 := rfl

theorem next_high {n : ℕ} (x : Fin n → EReal) (m : EReal) (k : ℕ) :
    eHigh x (bracket x m k).1 (bracket x m k).2 = (bracket x m (k + 1)).2 := rfl

theorem first_low {n : ℕ} (x : Fin n → EReal) (m : EReal) : eLow x (m - 1) m = (bracket x m 1).1 := rfl

theorem first_high {n : ℕ} (x : Fin n → EReal) (m : EReal) : eHigh x (m - 1) m = (bracket x m 1).2 := rfl

theorem low_two : k0_pay11 (F := Ideal) v (ix2 r 0) = (bracket (line v r) (rowMax (line v r)) 2).1 := by
  rw [lower_two, lower_one, upper_one, lower_zero, max_line, first_low, first_high, next_low]

theorem high_two : k0_pay12 (F := Ideal) v (ix2 r 0) = (bracket (line v r) (rowMax (line v r)) 2).2 := by
  rw [upper_two, lower_one, upper_one, lower_zero, max_line, first_low, first_high, next_high]

/-- The block's threshold before the last step. -/
abbrev early (v : FVec Ideal S32x100000 .f32) (q : Ideal .f32) : FVec Ideal S32x1 .f32 :=
  k0_pay27 v (k0_pay24 v (k0_pay11 v) (k0_pay12 v) (k0_pay13 v) q) (k0_pay25 v (k0_pay11 v) (k0_pay12 v) (k0_pay13 v) q)
    (k0_pay26 v (k0_pay11 v) (k0_pay12 v) (k0_pay13 v) q)

/-- The threshold of a block's row. -/
theorem tau_line (q : Ideal .f32) (hq : q = ((1 / 2 : ℝ) : EReal)) :
    eStep (line v r) (early v q (ix2 r 0)) = kTau (line v r) (rowMax (line v r)) := by
  have hs := sum_two v r
  have e3 := lower_three v r (k0_pay11 v) (k0_pay12 v) (k0_pay13 v) q hq hs
  have f3 := upper_three v r (k0_pay11 v) (k0_pay12 v) (k0_pay13 v) q hq hs
  rw [low_two, high_two, next_low] at e3
  rw [low_two, high_two, next_high] at f3
  have e4 := lower_four v r (k0_pay11 v) (k0_pay12 v) (k0_pay13 v) q
  have f4 := upper_four v r (k0_pay11 v) (k0_pay12 v) (k0_pay13 v) q
  rw [e3, f3, next_low] at e4
  rw [e3, f3, next_high] at f4
  have e5 := lower_five v r (k0_pay11 v) (k0_pay12 v) (k0_pay13 v) q
  rw [e4, f4, next_low] at e5
  have e6 := middle_six v r (k0_pay11 v) (k0_pay12 v) (k0_pay13 v) q
  rw [e4, f4, e5, next_high] at e6
  unfold early
  rw [three_steps, excess_six, e6, e5]
  unfold kTau
  rw [← next_low (line v r) (rowMax (line v r)) 5]
  unfold eLow
  rfl

/-- What a point adds to the accumulator. -/
theorem block_adds (q : Ideal .f32) (hq : q = ((1 / 2 : ℝ) : EReal)) (k : FVec Ideal S32 .f32) (acc : FVec Ideal S1x1 .f32) :
    k0_pay30 v (k0_pay2 v) k (early v q)
      (k0_pay28 v (k0_pay24 v (k0_pay11 v) (k0_pay12 v) (k0_pay13 v) q)
        (k0_pay25 v (k0_pay11 v) (k0_pay12 v) (k0_pay13 v) q) (k0_pay26 v (k0_pay11 v) (k0_pay12 v) (k0_pay13 v) q)) acc (ix2 0 0)
    = acc (ix2 0 0) + ∑ r : Fin 32, loss (line v r) (rowMax (line v r)) (kTau (line v r) (rowMax (line v r))) (k (ix1 r)) := by
  rw [add_losses v _ k (early v q) _ acc fun r c => spread_line v r _ _ _ c]
  simp only [tau_line v _ q hq, max_line]

/-- Picking one entry of a row by its column number. -/
theorem pick_entry (f : Fin 100000 → EReal) (w : BitVec 32) (h0 : 0 ≤ w.toInt) (h1 : w.toInt < 100000) :
    (∑ c : Fin 100000, Scalar.select (IntOp.cmpi .eq (BitVec.ofNat 32 c.val) w) (f c) 0) = f ⟨w.toInt.toNat, by omega⟩ := by
  have hw : w.toInt = (w.toNat : ℤ) := by
    have := w.isLt
    rw [BitVec.toInt_eq_toNat_cond] at *
    split_ifs at * <;> omega
  have key : ∀ c : Fin 100000, IntOp.cmpi .eq (BitVec.ofNat 32 c.val) w = BitVec.ofBool (decide (c = ⟨w.toInt.toNat, by omega⟩)) := by
    intro c
    have hc := c.isLt
    show BitVec.ofBool (BitVec.ofNat 32 c.val == w) = _
    congr 1
    rw [Bool.eq_iff_iff, beq_iff_eq, decide_eq_true_eq, Fin.ext_iff]
    constructor
    · intro h
      show c.val = w.toInt.toNat
      rw [hw, ← h, BitVec.toNat_ofNat]
      omega
    · intro h
      have h' : c.val = w.toInt.toNat := h
      apply BitVec.eq_of_toNat_eq
      rw [BitVec.toNat_ofNat]
      omega
  simp only [key, pick_of]
  rw [Finset.sum_ite_eq' Finset.univ]
  simp

/-- The entry at a row's label, as the kernel takes it. -/
theorem entry_line (l : IVec S1x1x32 32) (h0 : 0 ≤ (l (ix3 0 0 r)).toInt) (h1 : (l (ix3 0 0 r)).toInt < 100000) :
    k0_pay3 (F := Ideal) v l (ix1 r) = v (ix2 r ⟨(l (ix3 0 0 r)).toInt.toNat, by omega⟩) := by
  pointwise [k0_pay3]
  exact pick_entry (line v r) _ h0 h1

end Cert.Payload

end
-- ==== Proof.Blocks.lean ====
/-
  The kernel's input blocks read off the arguments: point `t` sees rows `32 t … 32 t + 31` and their labels.
-/
module

public import proofs.«01_k».proof.Proof.Gen.KernelIdeal.Value
public import Idealize.ShloMosaic.Lib.Pipeline.ValueKit

@[expose] public section

set_option maxRecDepth 16384

noncomputable section

namespace Cert.Blocks

open Cert.KernelIdeal Cert.KernelIdeal.Gen Idealize.ShloMosaic Idealize.ShloMosaic.TcCoe Idealize.SL.Sem

variable (m : (ℓ : Loc nD τ sig) → Buf (Elt Ideal) ℓ) (c : Dev nD)

theorem labels_at : ∀ t : Fin cfg0.N, win0_0.index t (0 : Fin 3) = t.val ∧ win0_0.index t (1 : Fin 3) = 0
    ∧ win0_0.index t (2 : Fin 3) = 0 :=
  (by decide +kernel : ∀ t : Fin grid0.N, _)

theorem rows_at : ∀ t : Fin cfg0.N, win0_1.index t (0 : Fin 2) = t.val ∧ win0_1.index t (1 : Fin 2) = 0 :=
  (by decide +kernel : ∀ t : Fin grid0.N, _)

theorem row_lt (t : Fin cfg0.N) (r : Fin 32) : 32 * t.val + r.val < 1024 := by
  have h1 := lt_of_lt_of_eq t.isLt (show cfg0.N = 32 from N_0)
  have h2 := r.isLt
  omega

/-- The table's block at point `t`. -/
theorem rows_read (t : Fin cfg0.N) (r : Fin 32) (k : Fin 100000) :
    iblk m c 1 t (ix2 r k) = m ((c : Thread nD τ).loc main_arg0) (ix2 ⟨32 * t.val + r.val, row_lt t r⟩ k) := by
  obtain ⟨e0, e1⟩ := rows_at t
  blk_ext! [iblk, V, e0, e1]

/-- The labels' block at point `t`. -/
theorem labels_read (t : Fin cfg0.N) (r : Fin 32) :
    iblk m c 0 t (ix3 0 0 r) = m ((c : Thread nD τ).loc main_arg1) (ix1 ⟨32 * t.val + r.val, row_lt t r⟩) := by
  obtain ⟨e0, e1, e2⟩ := labels_at t
  blk_ext! [iblk, V, e0, e1, e2]

end Cert.Blocks

end
-- ==== Proof.RowEq.lean ====
/-
  One row: the kernel's threshold less the row's greatest entry is the reference's threshold of the shifted row, so the two
  losses agree.
-/
module

public import proofs.«01_k».proof.Proof.RefRead

@[expose] public section

noncomputable section

namespace Cert.RowEq

open Finset Idealize.ShloMosaic Cert.Threshold Cert.Row Cert.RefRead

section Shift

variable {ι : Type} [Fintype ι] {y w : ι → ℝ} {M : ℝ} (h : ∀ i, y i = w i + M)
include h

theorem excess_shift (t : ℝ) : excess y (t + M) = excess w t :=
  Finset.sum_congr rfl fun i _ => by rw [h]; congr 1; ring

theorem cnt_shift (t : ℝ) : cnt y (t + M) = cnt w t :=
  Finset.sum_congr rfl fun i _ => by simp only [h, add_lt_add_iff_right]

theorem top_shift (t : ℝ) : top y (t + M) = top w t + cnt w t * M := by
  unfold top cnt
  rw [Finset.sum_mul, ← Finset.sum_add_distrib]
  refine Finset.sum_congr rfl fun i _ => ?_
  simp only [h, add_lt_add_iff_right]
  split_ifs <;> ring

theorem newton_shift (t : ℝ) (hc : cnt w t ≠ 0) : newton y (t + M) = newton w t + M := by
  unfold newton
  rw [cnt_shift h, top_shift h]
  field_simp
  ring

theorem between_shift (a b : ℝ) : between y (a + M) (b + M) = between w a b := by
  unfold between
  simp only [h, add_lt_add_iff_right]

end Shift

variable {n : ℕ}

theorem le_rowMax (x : Fin n → EReal) (i : Fin n) : x i ≤ rowMax x := by
  unfold rowMax
  rw [Finset.le_fold_max]
  exact Or.inr ⟨i, mem_univ _, le_rfl⟩

theorem exists_rowMax (hn : 0 < n) (x : Fin n → EReal) : ∃ i, x i = rowMax x := by
  obtain ⟨i, -, hi⟩ := Finset.exists_max_image univ x ⟨⟨0, hn⟩, mem_univ _⟩
  refine ⟨i, le_antisymm (le_rowMax x i) ?_⟩
  unfold rowMax
  rw [Finset.fold_max_le]
  exact ⟨bot_le, fun j hj => hi j hj⟩

/-- The count of the precondition, for a clipped row. -/
theorem few_coe (s : Fin n → EReal) (hs : ∀ i, s i ≠ ⊤) {a b : ℝ} (ha : -2 ≤ a) (hb : -2 ≤ b) :
    (∑ i, if (a : EReal) < s i ∧ s i < (b : EReal) then (1 : EReal) else 0) = ((between (clip (-2) s) a b : ℝ) : EReal) := by
  have e : ((between (clip (-2) s) a b : ℕ) : ℝ) = ∑ i, if a < clip (-2) s i ∧ clip (-2) s i < b then (1 : ℝ) else 0 := by
    unfold between
    rw [Finset.sum_ite, Finset.sum_const_zero, add_zero, Finset.sum_const, nsmul_eq_mul, mul_one]
  rw [e, coe_sum]
  refine Finset.sum_congr rfl fun i _ => ?_
  have h : ((a : EReal) < s i ∧ s i < (b : EReal)) ↔ (a < clip (-2) s i ∧ clip (-2) s i < b) := by
    constructor
    · rintro ⟨h1, h2⟩
      refine ⟨(lt_clip _ s i (hs i) ha).mp h1, ?_⟩
      rw [← EReal.coe_lt_coe_iff, clip_eq_of_lt _ s i (hs i) ha h1]
      exact h2
    · rintro ⟨h1, h2⟩
      have h3 := (lt_clip _ s i (hs i) ha).mpr h1
      refine ⟨h3, ?_⟩
      rw [← EReal.coe_lt_coe_iff, clip_eq_of_lt _ s i (hs i) ha h3] at h2
      exact h2
  simp only [h]
  split_ifs <;> simp

/-- The kernel's threshold, shifted, is the reference's. -/
theorem threshold_eq (hn : 0 < n) (x z : Fin n → EReal) (σ : Fin n → Fin n) (hσ : Function.Bijective σ)
    (hz : ∀ j, z j = shifted x (σ j)) (hanti : Antitone z)
    (hfew : (∑ i, if eNewton (shifted x) (Sorted.rTau z - ((1 / 64 : ℝ) : EReal)) < shifted x i
      ∧ shifted x i < Sorted.rTau z then (1 : EReal) else 0) ≤ ((2 : ℝ) : EReal)) :
    kTau x (rowMax x) - rowMax x = Sorted.rTau z := by
  obtain ⟨i0, hi0⟩ := exists_rowMax hn x
  rcases eq_or_ne (rowMax x) ⊤ with ht | ht
  · have hs : ∀ i, shifted x i = ⊥ := fun i => by unfold shifted; rw [ht]; exact EReal.sub_top _
    rw [Sorted.rTau_bot hn z fun j => by rw [hz, hs], ht]
    exact EReal.sub_top _
  rcases eq_or_ne (rowMax x) ⊥ with hb | hb
  · have hx : ∀ i, x i = ⊥ := fun i => le_bot_iff.mp (hb ▸ le_rowMax x i)
    have hs : ∀ i, shifted x i = ⊥ := fun i => by unfold shifted; rw [hx]; exact EReal.bot_sub _
    rw [Sorted.rTau_bot hn z fun j => by rw [hz, hs], hb, kTau_bot x hx]
    exact EReal.bot_sub _
  obtain ⟨M, hM⟩ : ∃ M : ℝ, rowMax x = (M : EReal) := ⟨_, (EReal.coe_toReal ht hb).symm⟩
  have hle : ∀ i, x i ≤ (M : EReal) := fun i => hM ▸ le_rowMax x i
  have hx : ∀ i, x i ≠ ⊤ := fun i hc => absurd (hle i) (by rw [hc]; exact not_le.mpr (EReal.coe_lt_top M))
  have hsx : ∀ i, shifted x i = x i - (M : EReal) := fun i => by unfold shifted; rw [hM]
  have hs0 : ∀ i, shifted x i ≤ 0 := fun i => by rw [hsx]; exact sub_coe_nonpos (hle i)
  have hst : ∀ i, shifted x i ≠ ⊤ := fun i hc => by
    have := hs0 i
    rw [hc] at this
    exact absurd this (not_le.mpr (EReal.coe_lt_top 0))
  obtain ⟨y, hy⟩ : ∃ y, y = clip (M - 2) x := ⟨_, rfl⟩
  obtain ⟨w, hw⟩ : ∃ w, w = clip (-2) (shifted x) := ⟨_, rfl⟩
  have hyw : ∀ i, y i = w i + M := fun i => by
    rw [← EReal.coe_eq_coe_iff, hy, coe_clip _ _ _ (hx i), EReal.coe_add, hw, coe_clip _ _ _ (hst i), hsx]
    induction hxi : x i with
    | bot =>
      rw [EReal.bot_sub, max_eq_right bot_le, max_eq_right bot_le, ← EReal.coe_add]
      congr 1; ring
    | coe r =>
      rw [← EReal.coe_sub, ← coe_max, ← coe_max, ← EReal.coe_add]
      congr 1
      rw [← max_add_add_right]
      congr 1 <;> ring
    | top => exact absurd hxi (hx i)
  have hyM : ∀ i, y i ≤ M := fun i => by
    rw [← EReal.coe_le_coe_iff, hy, coe_clip _ _ _ (hx i)]
    exact max_le (hle i) (EReal.coe_le_coe_iff.mpr (by linarith))
  have hyM0 : y i0 = M := by
    rw [← EReal.coe_eq_coe_iff, hy, coe_clip _ _ _ (hx i0), hi0, hM]
    exact max_eq_left (EReal.coe_le_coe_iff.mpr (by linarith))
  obtain ⟨θ, h1, h2, h3⟩ := exists_threshold y M hyM ⟨i0, hyM0⟩
  have hthr : excess w (θ - M) = 1 := by rw [← excess_shift hyw, sub_add_cancel, h3]
  have hrow : Sorted.Row z (shifted x) σ (θ - M) :=
    { anti := hanti, perm := hz, bij := hσ, nonpos := hs0
      zero := ⟨i0, by
        show x i0 - rowMax x = 0
        rw [hi0, hM, ← EReal.coe_sub, sub_self, EReal.coe_zero]⟩
      thr := hw ▸ hthr, ge := by linarith, neg := by linarith }
  have hτ := hrow.rTau_eq
  have hpos : 0 < excess w (θ - M - 1 / 64) := by
    have := one_le_excess w hthr (by linarith : θ - M - 1 / 64 ≤ θ - M)
    linarith
  have hself := self_le_newton w (one_le_excess w hthr (by linarith : θ - M - 1 / 64 ≤ θ - M))
  rw [hτ, ← EReal.coe_sub, eNewton_coe (-2) _ hst (by linarith : -2 ≤ θ - M - 1 / 64) (hw ▸ hpos),
    few_coe _ hst (by rw [← hw]; linarith) (by linarith), ← hw, EReal.coe_le_coe_iff] at hfew
  have hk : kTau x M = (θ : EReal) := by
    refine kTau_coe x hx M θ (hy ▸ h3) h1 h2 ?_
    have e : newton y (θ - 1 / 64) = newton w (θ - M - 1 / 64) + M := by
      rw [← newton_shift hyw _ (cnt_pos w hpos).ne']
      congr 1; ring
    rw [← hy, e, show θ = θ - M + M by ring, between_shift hyw, show θ - M + M - M - 1 / 64 = θ - M - 1 / 64 by ring]
    exact_mod_cast hfew
  rw [hM, hk, hτ, EReal.coe_sub]

/-- The losses of a row agree. -/
theorem loss_eq (hn : 0 < n) (x z : Fin n → EReal) (σ : Fin n → Fin n) (hσ : Function.Bijective σ)
    (hz : ∀ j, z j = shifted x (σ j)) (hanti : Antitone z)
    (hfew : (∑ i, if eNewton (shifted x) (Sorted.rTau z - ((1 / 64 : ℝ) : EReal)) < shifted x i
      ∧ shifted x i < Sorted.rTau z then (1 : EReal) else 0) ≤ ((2 : ℝ) : EReal)) (zk : EReal) :
    loss x (rowMax x) (kTau x (rowMax x)) zk = rLoss (shifted x) (Sorted.rTau z) zk := by
  unfold loss rLoss
  rw [threshold_eq hn x z σ hσ hz hanti hfew]
  simp only [max_comm (0 : EReal)]
  rfl

end Cert.RowEq

end
-- ==== Proof.PreRead.lean ====
/-
  The precondition read at a row: the label is a column number, and after one step from `1/64` below the row's threshold at
  most two shifted entries lie strictly between.
-/
module

public import proofs.«01_k».proof.Pre_settles
public import proofs.«01_k».proof.Proof.RefRead

@[expose] public section

set_option maxRecDepth 16384

noncomputable section

namespace Cert.PreRead

open Cert.Pre_settles Cert.Pre_settles.Facts Idealize.ShloMosaic

variable [Cert.Pre_settles.Facts]

/-- One where the entry lies above `1/64` below the threshold. -/
def above (s : FVec Ideal S1024x100000 .f32) (tau : FVec Ideal S1024x1 .f32) : FVec Ideal S1024x100000 .f32 :=
  uitofp .f32 (cmpf .ogt s (broadcastInDim S1024x100000 ![0, 1] bcast_S1024x1_S1024x100000_0_1
    (subf tau (broadcastInDim S1024x1 ![] bcast_S_S1024x1 (constant S_ .f32 0x3C800000#32)))))

/-- The sum of each row. -/
def rowSums (y : FVec Ideal S1024x100000 .f32) : FVec Ideal S1024 .f32 :=
  Host.reduceAdd y (constant S_ .f32 0x00000000#32) reducesTo_S1024x100000_S1024_d1 h_S_

/-- The first step from there. -/
def first (s : FVec Ideal S1024x100000 .f32) (a : FVec Ideal S1024x100000 .f32) : FVec Ideal S1024x1 .f32 :=
  Host.divf (subf (broadcastInDim S1024x1 ![0] bcast_S1024_S1024x1_0 (rowSums (mulf a s)))
      (broadcastInDim S1024x1 ![] bcast_S_S1024x1 (constant S_ .f32 0x3F800000#32)))
    (broadcastInDim S1024x1 ![0] bcast_S1024_S1024x1_0 (rowSums a))

/-- One where the entry lies strictly between that step and the threshold. -/
def amid (s : FVec Ideal S1024x100000 .f32) (p tau : FVec Ideal S1024x1 .f32) : FVec Ideal S1024x100000 .f32 :=
  uitofp .f32 (andi (cmpf .ogt s (broadcastInDim S1024x100000 ![0, 1] bcast_S1024x1_S1024x100000_0_1 p))
    (cmpf .olt s (broadcastInDim S1024x100000 ![0, 1] bcast_S1024x1_S1024x100000_0_1 tau)))

/-- At most two of them, and the label a column number. -/
def verdict (n : FVec Ideal S1024 .f32) (t : IVec S1024 32) : IVec S1024 1 :=
  andi (andi (cmpf .ole n (broadcastInDim S1024 ![] bcast_S_S1024 (constant S_ .f32 0x40000000#32)))
      (cmpi .sge t (broadcastInDim S1024 ![] bcast_S_S1024 (constantI S_ 32 0#32))))
    (cmpi .slt t (broadcastInDim S1024 ![] bcast_S_S1024 (constantI S_ 32 100000#32)))

/-- The precondition from the shifted rows, their thresholds and the labels. -/
def whole (s : FVec Ideal S1024x100000 .f32) (tau : FVec Ideal S1024x1 .f32) (t : IVec S1024 32) : IVec S1024 1 :=
  verdict (rowSums (amid s (first s (above s tau)) tau)) t

theorem part1_eq (t : IVec S1024 32) (s z g k : FVec Ideal S1024x100000 .f32) (c : FVec Ideal S_ .f32) :
    fn_part1 (F := Ideal) t s z g k c = whole s (Host.divf
      (subf (broadcastInDim S1024x1 ![0] bcast_S1024_S1024x1_0 (rowSums (mulf g z)))
        (broadcastInDim S1024x1 ![] bcast_S_S1024x1 (constant S_ .f32 0x3F800000#32)))
      (broadcastInDim S1024x1 ![0] bcast_S1024_S1024x1_0
        (Host.reduce FloatOps.maximumf k c reducesTo_S1024x100000_S1024_d1 h_S_))) t := by
  unfold fn_part1 fn_part2 whole verdict amid first above rowSums
  rfl

/-- The precondition speaks of the reference's own shifted rows and thresholds. -/
theorem fn_eq (x : FVec Ideal S1024x100000 .f32) (t : IVec S1024 32) :
    fn (F := Ideal) x t = whole (Cert.ReferenceIdeal.Read.val_main_v18 (F := Ideal) x)
      (Cert.ReferenceIdeal.Read.val_main_v42 (F := Ideal) x) t := by
  unfold fn
  rw [part1_eq]
  rfl

theorem sums_apply (y : FVec Ideal S1024x100000 .f32) (r : Fin 1024) : rowSums y (ix1 r) = ∑ c : Fin 100000, y (ix2 r c) := by
  unfold rowSums
  simp only [Host.reduceAdd, Ideal.hostReduceAdd_def]
  rw [Ideal.hostReduceAdd_single reducesTo_S1024x100000_S1024_d1 (by decide)]
  refine (congrArg (· + _) Ideal.ofBits_zero_f32).trans ((zero_add _).trans (Finset.sum_congr rfl fun k _ => ?_))
  exact congrArg y (funext fun a => Fin.ext (by match a with | ⟨0, _⟩ => rfl | ⟨1, _⟩ => rfl))

theorem above_apply (s : FVec Ideal S1024x100000 .f32) (tau : FVec Ideal S1024x1 .f32) (r : Fin 1024) (c : Fin 100000) :
    above s tau (ix2 r c) = if tau (ix2 r 0) - ((1 / 64 : ℝ) : EReal) < s (ix2 r c) then 1 else 0 := by
  pointwise [above]
  rw [RefRead.bit_number, RefRead.const_sixtyfourth]

theorem first_apply (s a : FVec Ideal S1024x100000 .f32) (r : Fin 1024) :
    first s a (ix2 r 0) = Ideal.div ((∑ c : Fin 100000, a (ix2 r c) * s (ix2 r c)) - 1) (∑ c : Fin 100000, a (ix2 r c)) := by
  have key : ∀ u v : FVec Ideal S1024 .f32, Host.divf (subf (broadcastInDim S1024x1 ![0] bcast_S1024_S1024x1_0 u)
      (broadcastInDim S1024x1 ![] bcast_S_S1024x1 (constant S_ .f32 0x3F800000#32)))
      (broadcastInDim S1024x1 ![0] bcast_S1024_S1024x1_0 v) (ix2 r 0) = Ideal.div (u (ix1 r) - 1) (v (ix1 r)) := by
    intro u v
    pointwise []
  unfold first
  rw [key, sums_apply, sums_apply]
  have e : ∀ c, mulf (F := Ideal) a s (ix2 r c) = a (ix2 r c) * s (ix2 r c) := fun c => rfl
  simp only [e]

theorem amid_apply (s : FVec Ideal S1024x100000 .f32) (p tau : FVec Ideal S1024x1 .f32) (r : Fin 1024) (c : Fin 100000) :
    amid s p tau (ix2 r c) = if p (ix2 r 0) < s (ix2 r c) ∧ s (ix2 r c) < tau (ix2 r 0) then 1 else 0 := by
  pointwise [amid]
  generalize p (ix2 r 0) = a
  generalize s (ix2 r c) = b
  generalize tau (ix2 r 0) = d
  rw [← RefRead.bit_number]
  refine congrArg (FloatOps.uitofp (F := Ideal) FTy.f32) ?_
  by_cases h1 : a < b <;> by_cases h2 : b < d <;> simp [h1, h2, IntOp.andi]

theorem bit_and (a b : BitVec 1) : IntOp.andi a b = 1#1 ↔ a = 1#1 ∧ b = 1#1 := by revert a b; decide

theorem verdict_apply (n : FVec Ideal S1024 .f32) (t : IVec S1024 32) (r : Fin 1024) (h : verdict n t (ix1 r) = 1#1) :
    n (ix1 r) ≤ ((2 : ℝ) : EReal) ∧ 0 ≤ (t (ix1 r)).toInt ∧ (t (ix1 r)).toInt < 100000 := by
  revert h
  pointwise [verdict]
  rw [bit_and, bit_and, RefRead.const_two]
  rintro ⟨⟨h1, h2⟩, h3⟩
  refine ⟨?_, ?_, ?_⟩
  · by_contra hc
    simp [hc] at h1
  · have : BitVec.ofBool ((0#32).sle (t (ix1 r))) = 1#1 := h2
    by_contra hc
    have h4 : (0#32).sle (t (ix1 r)) = false := by
      rw [BitVec.sle_eq_decide, decide_eq_false_iff_not]; simpa using hc
    rw [h4] at this
    exact absurd this (by decide)
  · have : BitVec.ofBool ((t (ix1 r)).slt 100000#32) = 1#1 := h3
    by_contra hc
    have h4 : (t (ix1 r)).slt 100000#32 = false := by
      rw [BitVec.slt_eq_decide, decide_eq_false_iff_not]; simpa using hc
    rw [h4] at this
    exact absurd this (by decide)

/-- The precondition, row by row. -/
theorem settled (x : FVec Ideal S1024x100000 .f32) (t : IVec S1024 32) (h : fn (F := Ideal) x t = fun _ => 1#1) (r : Fin 1024) :
    (∑ c : Fin 100000, if Row.eNewton (RefRead.shifted (RefRead.row x r))
          (Cert.ReferenceIdeal.Read.val_main_v42 (F := Ideal) x (ix2 r 0) - ((1 / 64 : ℝ) : EReal))
            < RefRead.shifted (RefRead.row x r) c
        ∧ RefRead.shifted (RefRead.row x r) c < Cert.ReferenceIdeal.Read.val_main_v42 (F := Ideal) x (ix2 r 0)
      then (1 : EReal) else 0) ≤ ((2 : ℝ) : EReal)
    ∧ 0 ≤ (t (ix1 r)).toInt ∧ (t (ix1 r)).toInt < 100000 := by
  rw [fn_eq] at h
  obtain ⟨h1, h2⟩ := verdict_apply _ t r (congrFun h (ix1 r))
  refine ⟨?_, h2⟩
  rw [sums_apply] at h1
  simp only [amid_apply, first_apply, above_apply, RefRead.shifted_row] at h1
  generalize Cert.ReferenceIdeal.Read.val_main_v42 (F := Ideal) x (ix2 r 0) = a at h1 ⊢
  generalize RefRead.shifted (RefRead.row x r) = s at h1 ⊢
  have e : ∀ b : EReal, (∑ c : Fin 100000, (if b < s c then (1 : EReal) else 0) * s c) = Row.eTop s b := fun b =>
    Finset.sum_congr rfl fun c _ => by
      split_ifs
      · exact one_mul _
      · exact zero_mul _
  rw [e] at h1
  exact h1

end Cert.PreRead

end
-- ==== Proof.Result.lean ====
/-
  The two results are equal: the kernel accumulates the blocks' losses over the grid and scales the total once, the
  reference averages the rows' losses.
-/
module

public import proofs.«01_k».proof.Proof.Payload
public import proofs.«01_k».proof.Proof.Blocks
public import proofs.«01_k».proof.Proof.RowEq
public import proofs.«01_k».proof.Proof.PreRead

@[expose] public section

set_option maxRecDepth 16384

noncomputable section

namespace Cert.Result

open Cert.KernelIdeal Cert.KernelIdeal.Gen Cert.KernelIdeal.Value Idealize.ShloMosaic Idealize.ShloMosaic.TcCoe
  Idealize.SL.Sem
open Cert.Row Cert.Lanes
open Cert.RefRead (rowMax shifted row)

/-- The loss of row `R` of a table with labels `t`, as the kernel computes it. -/
def kLoss (x : FVec Ideal S1024x100000 .f32) (t : IVec S1024 32) (R : Fin 1024) : EReal :=
  loss (row x R) (rowMax (row x R)) (kTau (row x R) (rowMax (row x R)))
    (if h : (t (ix1 R)).toInt.toNat < 100000 then x (ix2 R ⟨(t (ix1 R)).toInt.toNat, h⟩) else 0)

section Grid

variable (m : (ℓ : Loc nD τ sig) → Buf (Elt Ideal) ℓ) (c : Dev nD)
variable (x : FVec Ideal S1024x100000 .f32) (t : IVec S1024 32)

/-- The losses of point `n`'s rows. -/
def part (n : ℕ) : EReal := if h : n < 32 then ∑ r : Fin 32, kLoss x t ⟨32 * n + r.val, by have := r.isLt; omega⟩ else 0

variable (hx : m ((c : Thread nD τ).loc main_arg0) = x) (ht : m ((c : Thread nD τ).loc main_arg1) = t)
  (hlab : ∀ R, 0 ≤ (t (ix1 R)).toInt ∧ (t (ix1 R)).toInt < 100000)

include hx ht hlab

/-- A point's sum over its rows, read off the arguments. -/
theorem part_eq (n : ℕ) (h : n < cfg0.N) :
    (∑ r : Fin 32, loss (line (iblk m c 1 ⟨n, h⟩) r) (rowMax (line (iblk m c 1 ⟨n, h⟩) r))
      (kTau (line (iblk m c 1 ⟨n, h⟩) r) (rowMax (line (iblk m c 1 ⟨n, h⟩) r)))
      (k0_pay3 (F := Ideal) (iblk m c 1 ⟨n, h⟩) (iblk m c 0 ⟨n, h⟩) (ix1 r))) = part x t n := by
  unfold part
  rw [dif_pos (lt_of_lt_of_eq h (show cfg0.N = 32 from N_0))]
  refine Finset.sum_congr rfl fun r _ => ?_
  have hR := Blocks.row_lt ⟨n, h⟩ r
  have el : line (iblk m c 1 ⟨n, h⟩) r = row x ⟨32 * n + r.val, hR⟩ := funext fun k => by
    rw [← hx]; exact Blocks.rows_read m c ⟨n, h⟩ r k
  have et : iblk m c 0 ⟨n, h⟩ (ix3 0 0 r) = t (ix1 ⟨32 * n + r.val, hR⟩) := by
    rw [← ht]; exact Blocks.labels_read m c ⟨n, h⟩ r
  obtain ⟨h0, h1⟩ := hlab ⟨32 * n + r.val, hR⟩
  have ek := Payload.entry_line (iblk m c 1 ⟨n, h⟩) r (iblk m c 0 ⟨n, h⟩) (by rw [et]; exact h0) (by rw [et]; exact h1)
  have ev : ∀ (w : BitVec 32) (hw : w.toInt.toNat < 100000) (_ : w = t (ix1 ⟨32 * n + r.val, hR⟩)),
      line (iblk m c 1 ⟨n, h⟩) r ⟨w.toInt.toNat, hw⟩
        = x (ix2 ⟨32 * n + r.val, hR⟩ ⟨(t (ix1 ⟨32 * n + r.val, hR⟩)).toInt.toNat, by omega⟩) := by
    intro w hw e
    subst e
    rw [el]
  replace ek := ek.trans (ev _ _ et)
  unfold kLoss
  rw [el, ek, dif_pos (by omega)]

theorem reset_add (n : ℕ) (h : n < cfg0.N) : reset2 m c n h (ix2 0 0) = 0 + part x t n := by
  unfold reset2
  refine (Payload.block_adds (iblk m c 1 ⟨n, h⟩) _ Cert.RefRead.const_half _ _).trans ?_
  rw [start, part_eq m c x t hx ht hlab n h]

theorem step_add (n : ℕ) (h : n < cfg0.N) (acc : FVec Ideal S1x1 .f32) (h0 : ¬n % 32 = 0) (h1 : ¬n % 32 = 31) :
    step2 m c n h acc (ix2 0 0) = acc (ix2 0 0) + part x t n := by
  unfold step2
  rw [if_pos ⟨h0, h1⟩]
  refine (Payload.block_adds (iblk m c 1 ⟨n, h⟩) _ Cert.RefRead.const_half _ _).trans ?_
  rw [part_eq m c x t hx ht hlab n h]

theorem last_add (n : ℕ) (h : n < cfg0.N) (acc : FVec Ideal S1x1 .f32) (h1 : n % 32 = 31) :
    step2 m c n h acc (ix2 0 0) = (acc (ix2 0 0) + part x t n) * ((1 / 1024 : ℝ) : EReal) := by
  unfold step2
  rw [if_neg (by omega), if_pos ⟨by omega, h1⟩]
  refine (scale _).trans ?_
  refine congrArg (· * ((1 / 1024 : ℝ) : EReal)) ?_
  refine (Payload.block_adds (iblk m c 1 ⟨n, h⟩) _ Cert.RefRead.const_half _ _).trans ?_
  rw [part_eq m c x t hx ht hlab n h]

/-- What the accumulator holds before the last point. -/
theorem before_last (j : ℕ) (hj : j ≤ 30) (h : 0 + j < cfg0.N) :
    Pipeline.accAt (reset2 m c) (step2 m c) 0 j h (ix2 0 0) = ∑ n ∈ Finset.range (j + 1), part x t n := by
  induction j with
  | zero => rw [Pipeline.accAt_zero, reset_add m c x t hx ht hlab, zero_add, zero_add, Finset.sum_range_one]
  | succ j ih =>
    rw [Pipeline.accAt_succ, step_add m c x t hx ht hlab _ h _ (by omega) (by omega), ih (by omega) (by omega),
      Finset.sum_range_succ _ (j + 1), zero_add]

theorem total_parts : (∑ n ∈ Finset.range 32, part x t n) = ∑ R : Fin 1024, kLoss x t R := by
  rw [← Fin.sum_univ_eq_sum_range]
  rw [← Fin.sum_mul_add_fin 32 32 (kLoss x t)]
  refine Finset.sum_congr rfl fun s _ => ?_
  unfold part
  rw [dif_pos s.isLt]
  refine Finset.sum_congr rfl fun r _ => congrArg (kLoss x t) (Fin.ext ?_)
  show 32 * s.val + r.val = s.val * 32 + r.val
  omega

/-- The kernel's result. -/
theorem kernel_result : G2 m c (ix2 0 0) = (∑ R : Fin 1024, kLoss x t R) * ((1 / 1024 : ℝ) : EReal) := by
  have hN : 0 + 31 < cfg0.N := lt_of_lt_of_eq (by norm_num) (show 32 = cfg0.N from N_0.symm)
  have e : G2 m c (ix2 0 0) = Pipeline.accAt (reset2 m c) (step2 m c) 0 31 hN (ix2 0 0) := by
    unfold G2
    split
    · exact congrArg (Pipeline.accAt (reset2 m c) (step2 m c) 0 31 hN) (funext fun a => Fin.ext (by match a with | ⟨0, _⟩ => rfl | ⟨1, _⟩ => rfl))
    · rename_i hn
      exact absurd hN hn
  rw [e, Pipeline.accAt_succ, last_add m c x t hx ht hlab _ hN _ (by norm_num), before_last m c x t hx ht hlab 30 le_rfl,
    zero_add, ← Finset.sum_range_succ, total_parts m c x t hx ht hlab]

end Grid

variable [Cert.Pre_settles.Facts]

/-- One row: the kernel's loss is the reference's. -/
theorem row_eq (x : FVec Ideal S1024x100000 .f32) (t : IVec S1024 32)
    (h : Cert.Pre_settles.fn (F := Ideal) x t = fun _ => 1#1) (R : Fin 1024) :
    kLoss x t R = Cert.ReferenceIdeal.Read.val_main_v54 (F := Ideal) x t (ix1 R) := by
  obtain ⟨hfew, h0, h1⟩ := PreRead.settled x t h R
  obtain ⟨σ, hσ, hz, hanti⟩ := RefRead.sorted_row x R
  rw [RefRead.threshold_row] at hfew
  rw [RefRead.loss_row, RefRead.threshold_row, RefRead.entry_row x t R h0 h1]
  unfold kLoss
  rw [dif_pos (by omega)]
  exact RowEq.loss_eq (by norm_num) (row x R) _ σ hσ hz hanti hfew _

/-- The kernel's array is the reference's. -/
theorem results_eq (m : (ℓ : Loc nD τ sig) → Buf (Elt Ideal) ℓ) (c : Dev nD) (x : FVec Ideal S1024x100000 .f32)
    (t : IVec S1024 32) (hx : m ((c : Thread nD τ).loc main_arg0) = x) (ht : m ((c : Thread nD τ).loc main_arg1) = t)
    (h : Cert.Pre_settles.fn (F := Ideal) x t = fun _ => 1#1) :
    G2 m c = Cert.ReferenceIdeal.Read.val_main_v57 (F := Ideal) x t := by
  funext i
  have hi : i = ix2 0 0 := funext fun a => Fin.ext (by
    match a with
    | ⟨0, _⟩ => exact Nat.lt_one_iff.mp (i 0).isLt
    | ⟨1, _⟩ => exact Nat.lt_one_iff.mp (i 1).isLt)
  subst hi
  rw [kernel_result m c x t hx ht fun R => (PreRead.settled x t h R).2, RefRead.mean_rows]
  refine congrArg (· * ((1 / 1024 : ℝ) : EReal)) (Finset.sum_congr rfl fun R _ => row_eq x t h R)

end Cert.Result

end
-- ==== Proof.lean ====
/-
  The certificate. The kernel runs on both readings by the generated frames; the reference is host operations only; and
  at the ideal instance the two results are equal wherever the precondition holds (`Proof/Result.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Result
public import Idealize.ShloMosaic.Adequacy
public import Idealize.ShloMosaic.Init

@[expose] public section

noncomputable section

namespace Cert.Proof

open Idealize.ShloMosaic Idealize.SL.Sem

/-- The shape relations the precondition's operations take. -/
theorem pre_facts : Cert.Pre_settles.Facts where
  reducesTo_S1024x100000_S1024_d1 := Cert.ReferenceIdeal.Gen.reducesTo_S1024x100000_S1024_d1
  h_S_ := Cert.ReferenceIdeal.Gen.h_S_
  bcast_S1024_S1024x1_0 := Cert.ReferenceIdeal.Gen.bcast_S1024_S1024x1_0
  bcast_S1024x1_S1024x100000_0_1 := Cert.ReferenceIdeal.Gen.bcast_S1024x1_S1024x100000_0_1
  bcast_S_S100000 := Cert.ReferenceIdeal.Gen.bcast_S_S100000
  bcast_S100000_S1x100000_1 := Cert.ReferenceIdeal.Gen.bcast_S100000_S1x100000_1
  bcast_S1x100000_S1024x100000_0_1 := Cert.ReferenceIdeal.Gen.bcast_S1x100000_S1024x100000_0_1
  bcast_S_S1024x100000 := Cert.ReferenceIdeal.Gen.bcast_S_S1024x100000
  bcast_S_S_ := Cert.ReferenceIdeal.Gen.bcast_S_S_
  reduceWindows_S1024x100000_S1024x100000_w1s1p0_0_w100000s1p99999_0 :=
    Cert.ReferenceIdeal.Gen.reduceWindows_S1024x100000_S1024x100000_w1s1p0_0_w100000s1p99999_0
  bcast_S_S1024x1 := Cert.ReferenceIdeal.Gen.bcast_S_S1024x1
  bcast_S_S1024 := Cert.ReferenceIdeal.Gen.bcast_S_S1024

theorem runs_kernel : Cert.quiescent_Kernel (hKernel := Cert.Kernel.Gen.facts) :=
  fun m g _ => Cert.Kernel.Gen.frame m g

theorem runs_ideal : Cert.quiescent_KernelIdeal (hKernelIdeal := Cert.KernelIdeal.Gen.facts) :=
  fun m g _ => Cert.KernelIdeal.Gen.frame m g

/-- The reference declares no semaphore. -/
theorem runs_reference : Cert.quiescent_ReferenceIdeal (hReferenceIdeal := Cert.ReferenceIdeal.Gen.facts) :=
  fun m g _ => (θ_run Cert.ReferenceIdeal.defs _ _).mono
    (fun r h => ⟨fun c => (h c).2, Idealize.ShloMosaic.sem_eq_zero_of_no_sems (by decide) r.2⟩)
    (Cert.ReferenceIdeal.Value.run (F := Ideal) m g)

theorem same_result : Cert.algebraic_KernelIdeal_ReferenceIdeal_pre_settles (hKernelIdeal := Cert.KernelIdeal.Gen.facts)
    (hReferenceIdeal := Cert.ReferenceIdeal.Gen.facts) (hPre_settles := pre_facts) := by
  intro m g m' g' hpre hagree
  refine ⟨fun c => Cert.KernelIdeal.Value.G2 m c, Cert.KernelIdeal.Value.run (F := Ideal) m g,
    (θ_run Cert.ReferenceIdeal.defs _ _).mono (fun r h c => ⟨(h c).1.trans ?_, (h c).2⟩)
      (Cert.ReferenceIdeal.Value.run (F := Ideal) m' g')⟩
  haveI := pre_facts
  rw [Cert.ReferenceIdeal.Read.val_main_v57_eq, (hagree c).1, (hagree c).2]
  exact (Cert.Result.results_eq m c _ _ rfl rfl (hpre c)).symm

theorem claim : Cert.Claim :=
  ⟨Cert.Kernel.Gen.facts, Cert.KernelIdeal.Gen.facts, Cert.ReferenceIdeal.Gen.facts, pre_facts, runs_kernel, runs_ideal,
    fun m g _ => runs_ideal m g trivial, runs_reference, fun m g _ => runs_reference m g trivial, trivial, same_result⟩

end Cert.Proof

end
